-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "qscale" .f32 0x3E38AA3B#32 (((1 / 8) * (Real.log 2)⁻¹ : ℝ) : EReal)
  ∧ IdealRules.named_const.Statement Cert.Kernel3Ideal.κ "mask" .f32 0xF149F2CA#32 ⊥

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_2)) (v2 : (c : Dev Cert.Kernel4Ideal.nD) → Buf (Elt Ideal) ((c.tc : Thread Cert.Kernel4Ideal.nD Cert.Kernel4Ideal.τ).loc Cert.Kernel4Ideal.main_v9_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_2) = v1 c
          ∧ r.2.mem ((c.tc : Thread Cert.Kernel4Ideal.nD Cert.Kernel4Ideal.τ).loc Cert.Kernel4Ideal.main_v9_3) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite3 : Cert.Pre_finite3.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite3.lean ====
abbrev S8x128 : Shape := ⟨2, ![8, 128]⟩
abbrev S1x128 : Shape := ⟨2, ![1, 128]⟩
abbrev S4x4096x1024 : Shape := ⟨3, ![4, 4096, 1024]⟩
abbrev S1x1 : Shape := ⟨2, ![1, 1]⟩
abbrev S_ : Shape := ⟨0, ![]⟩

class Facts : Prop where
  slices_S8x128_S1x1_0_0 : S8x128.Slices ![0, 0] S1x1
  shapeCasts_S1x1_S_ : S1x1.ShapeCasts S_
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn_part1 {F : FTy → Type} [FloatOps F] (main_v13 : IVec S_ 1) (main_v16 : IVec S4x4096x1024 1) (main_c_4 : IVec S_ 1) : IVec S_ 1 :=
  let main_v17 : IVec S_ 1 := (fun x v => Host.reduce IntOp.andi x v reducesTo_S4x4096x1024_S_d0_1_2 h_S_) main_v16 main_c_4
  let main_v18 : IVec S_ 1 := andi main_v13 main_v17
  main_v18

def fn {F : FTy → Type} [FloatOps F] (main_arg0 : FVec F S8x128 .f32) (main_arg1 : FVec F S1x128 .f32) (main_arg2 : FVec F S4x4096x1024 .f32) (main_arg3 : FVec F S4x4096x1024 .f32) (main_arg4 : FVec F S4x4096x1024 .f32) : IVec S_ 1 :=
  let main_v0 : FVec F S1x1 .f32 := (extractStridedSlice S1x1 ![0, 0] · slices_S8x128_S1x1_0_0) main_arg0
  let main_v1 : FVec F S_ .f32 := shapeCast S_ main_v0 shapeCasts_S1x1_S_
  let main_v2 : FVec F S_ .f32 := Host.absf main_v1
  let main_cst : FVec F S_ .f32 := constant S_ .f32 0x7F800000#32
  let main_v3 : IVec S_ 1 := cmpf .olt main_v2 main_cst
  let main_v4 : FVec F S4x4096x1024 .f32 := Host.absf main_arg2
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c : IVec S_ 1 := constantI S_ 1 1#1
  let main_v7 : IVec S_ 1 := (fun x v => Host.reduce IntOp.andi x v reducesTo_S4x4096x1024_S_d0_1_2 h_S_) main_v6 main_c
  let main_v8 : IVec S_ 1 := andi main_v3 main_v7
  let main_v9 : FVec F S4x4096x1024 .f32 := Host.absf main_arg3
  let main_cst_1 : FVec F S_ .f32 := constant S_ .f32 0x7F800000#32
  let main_v10 : FVec F S4x4096x1024 .f32 := broadcastInDim S4x4096x1024 ![] bcast_S_S4x4096x1024 main_cst_1
  let main_v11 : IVec S4x4096x1024 1 := cmpf .olt main_v9 main_v10
  let main_c_2 : IVec S_ 1 := constantI S_ 1 1#1
  let main_v12 : IVec S_ 1 := (fun x v => Host.reduce IntOp.andi x v reducesTo_S4x4096x1024_S_d0_1_2 h_S_) main_v11 main_c_2
  let main_v13 : IVec S_ 1 := andi main_v8 main_v12
  let main_v14 : FVec F S4x4096x1024 .f32 := Host.absf main_arg4
  let main_cst_3 : FVec F S_ .f32 := constant S_ .f32 0x7F800000#32
  let main_v15 : FVec F S4x4096x1024 .f32 := broadcastInDim S4x4096x1024 ![] bcast_S_S4x4096x1024 main_cst_3
  let main_v16 : IVec S4x4096x1024 1 := cmpf .olt main_v14 main_v15
  let main_c_4 : IVec S_ 1 := constantI S_ 1 1#1
  fn_part1 (F := F) main_v13 main_v16 main_c_4
-- ==== Kernel2.lean ====
abbrev S16384x1024 : Shape := ⟨2, ![16384, 1024]⟩
abbrev S1x1024 : Shape := ⟨2, ![1, 1024]⟩
abbrev S16384x512 : Shape := ⟨2, ![16384, 512]⟩
abbrev S1x1024x5632 : Shape := ⟨3, ![1, 1024, 5632]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S1024 : Shape := ⟨1, ![1024]⟩
abbrev S1024x5632 : Shape := ⟨2, ![1024, 5632]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024x512 : Shape := ⟨2, ![1024, 512]⟩
abbrev S1024x1 : Shape := ⟨2, ![1024, 1]⟩
abbrev S1024x128 : Shape := ⟨2, ![1024, 128]⟩
abbrev S1x128x128 : Shape := ⟨3, ![1, 128, 128]⟩
abbrev S128x128 : Shape := ⟨2, ![128, 128]⟩

abbrev nBuf : Space → Nat
  | .hbm => 25
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x512, .bf16⟩
  | .hbm, ⟨3, _⟩ => ⟨S16384x1024, .bf16⟩
  | .hbm, ⟨4, _⟩ => ⟨S1x1024x5632, .f32⟩
  | .hbm, ⟨5, _⟩ => ⟨S1x4x128x128, .f32⟩
  | .hbm, ⟨6, _⟩ => ⟨S1x512, .f32⟩
  | .hbm, ⟨7, _⟩ => ⟨S1x512x1024, .f32⟩
  | .hbm, ⟨8, _⟩ => ⟨S1x1024x1024, .f32⟩
  | .hbm, ⟨9, _⟩ => ⟨S1x1024x1024, .f32⟩
  | .hbm, ⟨10, _⟩ => ⟨S1024, .f32⟩
  | .hbm, ⟨11, _⟩ => ⟨S1x1024, .f32⟩
  | .hbm, ⟨12, _⟩ => ⟨S1024x5632, .f32⟩
  | .hbm, ⟨13, _⟩ => ⟨S1024x5632, .bf16⟩
  | .hbm, ⟨14, _⟩ => ⟨S4x128x128, .f32⟩
  | .hbm, ⟨15, _⟩ => ⟨S4x128x128, .bf16⟩
  | .hbm, ⟨16, _⟩ => ⟨S512, .f32⟩
  | .hbm, ⟨17, _⟩ => ⟨S1x512, .f32⟩
  | .hbm, ⟨18, _⟩ => ⟨S512x1024, .f32⟩
  | .hbm, ⟨19, _⟩ => ⟨S512x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S4x128x128, .bf16⟩
  | .local _ .vmem, ⟨12, _⟩ => ⟨S1x512, .f32⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_5 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_6 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_7 (i : grid0.Coords) : Fin 2 → Nat :=
  let arg0 : BitVec 32 := BitVec.ofNat 32 (i 0).val
  let c0_i32 : BitVec 32 := 0#32
  let c10_i32 : BitVec 32 := 10#32
  let c0_i32_0 : BitVec 32 := 0#32
  ![c0_i32.toNat, c10_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16384x1024 : Shape := ⟨2, ![16384, 1024]⟩
abbrev S1x1024 : Shape := ⟨2, ![1, 1024]⟩
abbrev S16384x512 : Shape := ⟨2, ![16384, 512]⟩
abbrev S1x1024x5632 : Shape := ⟨3, ![1, 1024, 5632]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S1024x2048 : Shape := ⟨2, ![1024, 2048]⟩
abbrev S16384x2048 : Shape := ⟨2, ![16384, 2048]⟩
abbrev S16384x4x128 : Shape := ⟨3, ![16384, 4, 128]⟩
abbrev S4x128x128 : Shape := ⟨3, ![4, 128, 128]⟩
abbrev S4x128x16384 : Shape := ⟨3, ![4, 128, 16384]⟩
abbrev S512 : Shape := ⟨1, ![512]⟩
abbrev S512x1024 : Shape := ⟨2, ![512, 1024]⟩
abbrev S1024x1024 : Shape := ⟨2, ![1024, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x512, .bf16⟩
  | .hbm, ⟨3, _⟩ => ⟨S16384x1024, .bf16⟩
  | .hbm, ⟨4, _⟩ => ⟨S1x1024x5632, .f32⟩
  | .hbm, ⟨5, _⟩ => ⟨S1x4x128x128, .f32⟩
  | .hbm, ⟨6, _⟩ => ⟨S1x512, .f32⟩
  | .hbm, ⟨7, _⟩ => ⟨S1x512x1024, .f32⟩
  | .hbm, ⟨8, _⟩ => ⟨S1x1024x1024, .f32⟩
  | .hbm, ⟨9, _⟩ => ⟨S1x1024x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1024x5632, .f32⟩
  | .hbm, ⟨28, _⟩ => ⟨S1024x2048, .f32⟩
  | .hbm, ⟨29, _⟩ => ⟨S16384x2048, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x4x128, .bf16⟩
  | .hbm, ⟨49, _⟩ => ⟨S16384x4x128, .f32⟩
  | .hbm, ⟨50, _⟩ => ⟨S4x128x128, .f32⟩
  | .hbm, ⟨51, _⟩ => ⟨S4x128x16384, .f32⟩
  | .hbm, ⟨52, _⟩ => ⟨S16384x4x128, .f32⟩
  | .hbm, ⟨53, _⟩ => ⟨S16384x512, .f32⟩
  | .hbm, ⟨54, _⟩ => ⟨S512, .f32⟩
  | .hbm, ⟨55, _⟩ => ⟨S1x512, .f32⟩
  | .hbm, ⟨56, _⟩ => ⟨S16384x512, .f32⟩
  | .hbm, ⟨57, _⟩ => ⟨S16384x512, .f32⟩
  | .hbm, ⟨58, _⟩ => ⟨S512x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S1024x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S1024x1024, .f32⟩
  | .hbm, ⟨67, _⟩ => ⟨S16384x1024, .f32⟩
  | .hbm, ⟨68, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Kernel3.lean ====
abbrev S8x128 : Shape := ⟨2, ![8, 128]⟩
abbrev S1x128 : Shape := ⟨2, ![1, 128]⟩
abbrev S4x4096x1024 : Shape := ⟨3, ![4, 4096, 1024]⟩
abbrev S128 : Shape := ⟨1, ![128]⟩
abbrev S1x4096x128 : Shape := ⟨3, ![1, 4096, 128]⟩
abbrev S8x144x512 : Shape := ⟨3, ![8, 144, 512]⟩
abbrev S8x2x128x512 : Shape := ⟨4, ![8, 2, 128, 512]⟩
abbrev S2x512x512 : Shape := ⟨3, ![2, 512, 512]⟩
abbrev S2x2x1x512 : Shape := ⟨4, ![2, 2, 1, 512]⟩
abbrev S2x2x144x512 : Shape := ⟨4, ![2, 2, 144, 512]⟩
abbrev S128x512 : Shape := ⟨2, ![128, 512]⟩
abbrev S1x512x128 : Shape := ⟨3, ![1, 512, 128]⟩
abbrev S512x128 : Shape := ⟨2, ![512, 128]⟩
abbrev S1x128x512 : Shape := ⟨3, ![1, 128, 512]⟩
abbrev S16x512 : Shape := ⟨2, ![16, 512]⟩
abbrev S1x16x512 : Shape := ⟨3, ![1, 16, 512]⟩
abbrev S1x1x128x512 : Shape := ⟨4, ![1, 1, 128, 512]⟩
abbrev S1x1 : Shape := ⟨2, ![1, 1]⟩
abbrev S1x256x128 : Shape := ⟨3, ![1, 256, 128]⟩
abbrev S256x128 : Shape := ⟨2, ![256, 128]⟩
abbrev S1x1x128x256 : Shape := ⟨4, ![1, 1, 128, 256]⟩
abbrev S128x256 : Shape := ⟨2, ![128, 256]⟩
abbrev S256x256 : Shape := ⟨2, ![256, 256]⟩
abbrev S1x256x256 : Shape := ⟨3, ![1, 256, 256]⟩
abbrev S512x256 : Shape := ⟨2, ![512, 256]⟩
abbrev S1x512x256 : Shape := ⟨3, ![1, 512, 256]⟩
abbrev S512x512 : Shape := ⟨2, ![512, 512]⟩
abbrev S1x512x512 : Shape := ⟨3, ![1, 512, 512]⟩
abbrev S1x144x256 : Shape := ⟨3, ![1, 144, 256]⟩
abbrev S144x256 : Shape := ⟨2, ![144, 256]⟩
abbrev S256 : Shape := ⟨1, ![256]⟩
abbrev S1x256 : Shape := ⟨2, ![1, 256]⟩
abbrev S1x1x144x256 : Shape := ⟨4, ![1, 1, 144, 256]⟩
abbrev S1x1x1x256 : Shape := ⟨4, ![1, 1, 1, 256]⟩
abbrev S1x144x512 : Shape := ⟨3, ![1, 144, 512]⟩
abbrev S144x512 : Shape := ⟨2, ![144, 512]⟩
abbrev S1x1x144x512 : Shape := ⟨4, ![1, 1, 144, 512]⟩
abbrev S1x512 : Shape := ⟨2, ![1, 512]⟩
abbrev S512 : Shape := ⟨1, ![512]⟩

abbrev nBuf : Space → Nat
  | .hbm => 10
  | .vmem => 16
  | .smem => 0
  | _ => 0

abbrev bufTy : (tb : Table) → Fin (tcTables nBuf tb) → BufTy
  | .hbm, ⟨0, _⟩ => ⟨S8x128, .f32⟩
  | .hbm, ⟨1, _⟩ => ⟨S1x128, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S128, .f32⟩
  | .hbm, ⟨6, _⟩ => ⟨S1x128, .f32⟩
  | .hbm, ⟨7, _⟩ => ⟨S4x4096x1024, .bf16⟩
  | .hbm, ⟨8, _⟩ => ⟨S4x4096x1024, .bf16⟩
  | .hbm, ⟨9, _⟩ => ⟨S4x4096x1024, .bf16⟩
  | .local _ .vmem, ⟨0, _⟩ => ⟨S8x128, .f32⟩
  | .local _ .vmem, ⟨1, _⟩ => ⟨S1x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S8x144x512, .bf16⟩
  | .local _ .vmem, ⟨11, _⟩ => ⟨S8x2x128x512, .bf16⟩
  | .local _ .vmem, ⟨12, _⟩ => ⟨S2x512x512, .f32⟩
  | .local _ .vmem, ⟨13, _⟩ => ⟨S2x512x512, .f32⟩
  | .local _ .vmem, ⟨14, _⟩ => ⟨S2x2x1x512, .f32⟩
  | .local _ .vmem, ⟨15, _⟩ => ⟨S2x2x144x512, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel3Ideal.lean ====
variable {F : FTy → Type} [FloatOps F] [Named F]
def κ : String → Option EReal := fun
  | "mask" => some ⊥
  | "qscale" => some (((1 / 8) * (Real.log 2)⁻¹ : ℝ) : EReal)
  | _ => none
-- ==== Reference3Ideal.lean ====
abbrev S8x128 : Shape := ⟨2, ![8, 128]⟩
abbrev S1x128 : Shape := ⟨2, ![1, 128]⟩
abbrev S4x4096x1024 : Shape := ⟨3, ![4, 4096, 1024]⟩
abbrev S4x4096x8x2x64 : Shape := ⟨5, ![4, 4096, 8, 2, 64]⟩
abbrev S4x4096x8x128 : Shape := ⟨4, ![4, 4096, 8, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x2x4096x4096 : Shape := ⟨5, ![4, 8, 2, 4096, 4096]⟩
abbrev S_ : Shape := ⟨0, ![]⟩
abbrev S1x1x1x4096x4096 : Shape := ⟨5, ![1, 1, 1, 4096, 4096]⟩
abbrev S4x8x2x4096 : Shape := ⟨4, ![4, 8, 2, 4096]⟩
abbrev S4x8x2x4096x1 : Shape := ⟨5, ![4, 8, 2, 4096, 1]⟩
abbrev S4x8x1x4096x4096 : Shape := ⟨5, ![4, 8, 1, 4096, 4096]⟩
abbrev S4x8x4096x4096 : Shape := ⟨4, ![4, 8, 4096, 4096]⟩
abbrev S1x1 : Shape := ⟨2, ![1, 1]⟩
abbrev S4x8x128x4096 : Shape := ⟨4, ![4, 8, 128, 4096]⟩
abbrev S128 : Shape := ⟨1, ![128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 72
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S1x128, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S4x4096x8x2x64, .f32⟩
  | .hbm, ⟨6, _⟩ => ⟨S4x4096x8x2x64, .f32⟩
  | .hbm, ⟨7, _⟩ => ⟨S4x4096x8x128, .f32⟩
  | .hbm, ⟨8, _⟩ => ⟨S4096, .i32⟩
  | .hbm, ⟨9, _⟩ => ⟨S1x4096, .i32⟩
  | .hbm, ⟨10, _⟩ => ⟨S4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S4x8x2x4096x4096, .f32⟩
  | .hbm, ⟨16, _⟩ => ⟨S_, .f32⟩
  | .hbm, ⟨17, _⟩ => ⟨S4x8x2x4096x4096, .f32⟩
  | .hbm, ⟨18, _⟩ => ⟨S4x8x2x4096x4096, .f32⟩
  | .hbm, ⟨19, _⟩ => ⟨S1x1x1x4096x4096, .i1⟩
  | .hbm, ⟨20, _⟩ => ⟨S_, .f32⟩
  | .hbm, ⟨21, _⟩ => ⟨S_, .f32⟩
  | .hbm, ⟨22, _⟩ => ⟨S4x8x2x4096x4096, .i1⟩
  | .hbm, ⟨23, _⟩ => ⟨S4x8x2x4096x4096, .f32⟩
  | .hbm, ⟨24, _⟩ => ⟨S4x8x2x4096x4096, .f32⟩
  | .hbm, ⟨25, _⟩ => ⟨S_, .f32⟩
  | .hbm, ⟨26, _⟩ => ⟨S4x8x2x4096, .f32⟩
  | .hbm, ⟨27, _⟩ => ⟨S_, .f32⟩
  | .hbm, ⟨28, _⟩ => ⟨S4x8x2x4096, .f32⟩
  | .hbm, ⟨29, _⟩ => ⟨S4x8x2x4096, .f32⟩
  | .hbm, ⟨30, _⟩ => ⟨S4x8x2x4096x1, .f32⟩
  | .hbm, ⟨31, _⟩ => ⟨S4x8x2x4096x4096, .f32⟩
  | .hbm, ⟨32, _⟩ => ⟨S4x8x2x4096x4096, .f32⟩
  | .hbm, ⟨33, _⟩ => ⟨S4x8x2x4096x4096, .f32⟩
  | .hbm, ⟨34, _⟩ => ⟨S_, .f32⟩
  | .hbm, ⟨35, _⟩ => ⟨S4x8x2x4096, .f32⟩
  | .hbm, ⟨36, _⟩ => ⟨S4x8x2x4096x1, .f32⟩
  | .hbm, ⟨37, _⟩ => ⟨S4x8x2x4096x4096, .f32⟩
  | .hbm, ⟨38, _⟩ => ⟨S4x8x2x4096x4096, .f32⟩
  | .hbm, ⟨39, _⟩ => ⟨S4x8x1x4096x4096, .f32⟩
  | .hbm, ⟨40, _⟩ => ⟨S4x8x4096x4096, .f32⟩
  | .hbm, ⟨41, _⟩ => ⟨S1x1, .f32⟩
  | .hbm, ⟨42, _⟩ => ⟨S_, .f32⟩
  | .hbm, ⟨43, _⟩ => ⟨S4x8x1x4096x4096, .f32⟩
  | .hbm, ⟨44, _⟩ => ⟨S4x8x4096x4096, .f32⟩
  | .hbm, ⟨45, _⟩ => ⟨S4x8x4096x4096, .f32⟩
  | .hbm, ⟨46, _⟩ => ⟨S4x8x4096x4096, .f32⟩
  | .hbm, ⟨47, _⟩ => ⟨S4x8x4096x4096, .f32⟩
  | .hbm, ⟨48, _⟩ => ⟨S4x8x128x4096, .f32⟩
  | .hbm, ⟨49, _⟩ => ⟨S4x4096x8x128, .f32⟩
  | .hbm, ⟨50, _⟩ => ⟨S128, .f32⟩
  | .hbm, ⟨51, _⟩ => ⟨S4x4096x8x128, .f32⟩
  | .hbm, ⟨52, _⟩ => ⟨S_, .f32⟩
  | .hbm, ⟨53, _⟩ => ⟨S4x4096x8, .f32⟩
  | .hbm, ⟨54, _⟩ => ⟨S4x4096x8x1, .f32⟩
  | .hbm, ⟨55, _⟩ => ⟨S_, .f32⟩
  | .hbm, ⟨56, _⟩ => ⟨S4x4096x8x1, .f32⟩
  | .hbm, ⟨57, _⟩ => ⟨S4x4096x8x1, .f32⟩
  | .hbm, ⟨58, _⟩ => ⟨S_, .f32⟩
  | .hbm, ⟨59, _⟩ => ⟨S4x4096x8x1, .f32⟩
  | .hbm, ⟨60, _⟩ => ⟨S4x4096x8x1, .f32⟩
  | .hbm, ⟨61, _⟩ => ⟨S4x4096x8x1, .f32⟩
  | .hbm, ⟨62, _⟩ => ⟨S4x4096x8x128, .f32⟩
  | .hbm, ⟨63, _⟩ => ⟨S4x4096x8x128, .f32⟩
  | .hbm, ⟨64, _⟩ => ⟨S1x1x1x128, .f32⟩
  | .hbm, ⟨65, _⟩ => ⟨S4x4096x8x128, .f32⟩
  | .hbm, ⟨66, _⟩ => ⟨S4x4096x8x128, .f32⟩
  | .hbm, ⟨67, _⟩ => ⟨S_, .f32⟩
  | .hbm, ⟨68, _⟩ => ⟨S4x4096x8x128, .f32⟩
  | .hbm, ⟨69, _⟩ => ⟨S4x4096x8x128, .f32⟩
  | .hbm, ⟨70, _⟩ => ⟨S4x4096x1024, .f32⟩
  | .hbm, ⟨71, _⟩ => ⟨S4x4096x1024, .bf16⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel4.lean ====
abbrev S4x4096x1024 : Shape := ⟨3, ![4, 4096, 1024]⟩
abbrev S1x1024 : Shape := ⟨2, ![1, 1024]⟩
abbrev S1x1024x5632 : Shape := ⟨3, ![1, 1024, 5632]⟩
abbrev S4096x32 : Shape := ⟨2, ![4096, 32]⟩
abbrev S4096x128 : Shape := ⟨2, ![4096, 128]⟩
abbrev S16384x1024 : Shape := ⟨2, ![16384, 1024]⟩
abbrev S1024 : Shape := ⟨1, ![1024]⟩
abbrev S1024x5632 : Shape := ⟨2, ![1024, 5632]⟩
abbrev S16384x512 : Shape := ⟨2, ![16384, 512]⟩
abbrev S512x1024 : Shape := ⟨2, ![512, 1024]⟩
abbrev S512x128 : Shape := ⟨2, ![512, 128]⟩
abbrev S512x512 : Shape := ⟨2, ![512, 512]⟩
abbrev S528x512 : Shape := ⟨2, ![528, 512]⟩
abbrev S16x512 : Shape := ⟨2, ![16, 512]⟩
abbrev S512 : Shape := ⟨1, ![512]⟩
abbrev S512x1 : Shape := ⟨2, ![512, 1]⟩
abbrev S1024x512 : Shape := ⟨2, ![1024, 512]⟩
abbrev S64x128 : Shape := ⟨2, ![64, 128]⟩

abbrev nBuf : Space → Nat
  | .hbm => 21
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S4096x32, .f32⟩
  | .hbm, ⟨4, _⟩ => ⟨S4096x32, .f32⟩
  | .hbm, ⟨5, _⟩ => ⟨S4096x128, .f32⟩
  | .hbm, ⟨6, _⟩ => ⟨S4096x32, .f32⟩
  | .hbm, ⟨7, _⟩ => ⟨S4096x32, .f32⟩
  | .hbm, ⟨8, _⟩ => ⟨S4096x128, .f32⟩
  | .hbm, ⟨9, _⟩ => ⟨S16384x1024, .f32⟩
  | .hbm, ⟨10, _⟩ => ⟨S1024, .f32⟩
  | .hbm, ⟨11, _⟩ => ⟨S1x1024, .f32⟩
  | .hbm, ⟨12, _⟩ => ⟨S1024x5632, .f32⟩
  | .hbm, ⟨13, _⟩ => ⟨S1024x5632, .bf16⟩
  | .hbm, ⟨14, _⟩ => ⟨S16384x512, .f32⟩
  | .hbm, ⟨15, _⟩ => ⟨S16384x1024, .bf16⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S16384x1024, .bf16⟩
  | .hbm, ⟨20, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S512x1024, .bf16⟩
  | .local _ .vmem, ⟨23, _⟩ => ⟨S528x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev main_v9_5 : Ref sig .tc := ⟨.hbm, 19, rfl⟩
abbrev main_v9_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S4x4096x1024 : Shape := ⟨3, ![4, 4096, 1024]⟩
abbrev S1x1024 : Shape := ⟨2, ![1, 1024]⟩
abbrev S1x1024x5632 : Shape := ⟨3, ![1, 1024, 5632]⟩
abbrev S4096x32 : Shape := ⟨2, ![4096, 32]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5632 : Shape := ⟨2, ![1024, 5632]⟩
abbrev S4x4096x5632 : Shape := ⟨3, ![4, 4096, 5632]⟩
abbrev S4x4096x8x2x64 : Shape := ⟨5, ![4, 4096, 8, 2, 64]⟩
abbrev S4096x1x1x32 : Shape := ⟨4, ![4096, 1, 1, 32]⟩
abbrev S4x4096x8x2x32 : Shape := ⟨5, ![4, 4096, 8, 2, 32]⟩
abbrev S1x4096x1x1x32 : Shape := ⟨5, ![1, 4096, 1, 1, 32]⟩
abbrev S4x4096x512 : Shape := ⟨3, ![4, 4096, 512]⟩
abbrev S16384x512 : Shape := ⟨2, ![16384, 512]⟩
abbrev S16384x1024 : Shape := ⟨2, ![16384, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S4096x32, .f32⟩
  | .hbm, ⟨4, _⟩ => ⟨S4096x32, .f32⟩
  | .hbm, ⟨5, _⟩ => ⟨S1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S1024x5632, .f32⟩
  | .hbm, ⟨23, _⟩ => ⟨S4x4096x5632, .f32⟩
  | .hbm, ⟨24, _⟩ => ⟨S4x4096x1024, .f32⟩
  | .hbm, ⟨25, _⟩ => ⟨S4x4096x8x2x64, .f32⟩
  | .hbm, ⟨26, _⟩ => ⟨S4096x1x1x32, .f32⟩
  | .hbm, ⟨27, _⟩ => ⟨S4096x1x1x32, .f32⟩
  | .hbm, ⟨28, _⟩ => ⟨S4x4096x8x2x32, .f32⟩
  | .hbm, ⟨29, _⟩ => ⟨S4x4096x8x2x32, .f32⟩
  | .hbm, ⟨30, _⟩ => ⟨S1x4096x1x1x32, .f32⟩
  | .hbm, ⟨31, _⟩ => ⟨S4x4096x8x2x32, .f32⟩
  | .hbm, ⟨32, _⟩ => ⟨S4x4096x8x2x32, .f32⟩
  | .hbm, ⟨33, _⟩ => ⟨S1x4096x1x1x32, .f32⟩
  | .hbm, ⟨34, _⟩ => ⟨S4x4096x8x2x32, .f32⟩
  | .hbm, ⟨35, _⟩ => ⟨S4x4096x8x2x32, .f32⟩
  | .hbm, ⟨36, _⟩ => ⟨S4x4096x8x2x32, .f32⟩
  | .hbm, ⟨37, _⟩ => ⟨S1x4096x1x1x32, .f32⟩
  | .hbm, ⟨38, _⟩ => ⟨S4x4096x8x2x32, .f32⟩
  | .hbm, ⟨39, _⟩ => ⟨S4x4096x8x2x32, .f32⟩
  | .hbm, ⟨40, _⟩ => ⟨S1x4096x1x1x32, .f32⟩
  | .hbm, ⟨41, _⟩ => ⟨S4x4096x8x2x32, .f32⟩
  | .hbm, ⟨42, _⟩ => ⟨S4x4096x8x2x32, .f32⟩
  | .hbm, ⟨43, _⟩ => ⟨S4x4096x8x2x32, .f32⟩
  | .hbm, ⟨44, _⟩ => ⟨S4x4096x8x2x64, .f32⟩
  | .hbm, ⟨45, _⟩ => ⟨S4x4096x512, .f32⟩
  | .hbm, ⟨46, _⟩ => ⟨S16384x512, .f32⟩
  | .hbm, ⟨47, _⟩ => ⟨S16384x1024, .f32⟩
  | .hbm, ⟨48, _⟩ => ⟨S4x4096x1024, .f32⟩
  | .hbm, ⟨49, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== Kernel5.lean ====
abbrev S128x1024 : Shape := ⟨2, ![128, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S128 : Shape := ⟨1, ![128]⟩
abbrev S128x1 : Shape := ⟨2, ![128, 1]⟩
abbrev S1024x2048 : Shape := ⟨2, ![1024, 2048]⟩
abbrev S128x2048 : Shape := ⟨2, ![128, 2048]⟩
abbrev S2048x1024 : Shape := ⟨2, ![2048, 1024]⟩

abbrev nBuf : Space → Nat
  | .hbm => 13
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1024x4096, .f32⟩
  | .hbm, ⟨8, _⟩ => ⟨S1024x4096, .bf16⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S128x1024, .f32⟩
  | .local _ .vmem, ⟨6, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference5Ideal.lean ====
abbrev S128x1024 : Shape := ⟨2, ![128, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1024x4096 : Shape := ⟨2, ![1024, 4096]⟩
abbrev S128x4096 : Shape := ⟨2, ![128, 4096]⟩
abbrev S4096x1024 : Shape := ⟨2, ![4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S1024x4096, .f32⟩
  | .hbm, ⟨23, _⟩ => ⟨S128x4096, .f32⟩
  | .hbm, ⟨24, _⟩ => ⟨S_, .f32⟩
  | .hbm, ⟨25, _⟩ => ⟨S128x4096, .f32⟩
  | .hbm, ⟨26, _⟩ => ⟨S128x4096, .f32⟩
  | .hbm, ⟨27, _⟩ => ⟨S128x4096, .f32⟩
  | .hbm, ⟨28, _⟩ => ⟨S4096x1024, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S_, .f32⟩
  | .hbm, ⟨39, _⟩ => ⟨S128x1, .f32⟩
  | .hbm, ⟨40, _⟩ => ⟨S128x1, .f32⟩
  | .hbm, ⟨41, _⟩ => ⟨S128x1, .f32⟩
  | .hbm, ⟨42, _⟩ => ⟨S128x1024, .f32⟩
  | .hbm, ⟨43, _⟩ => ⟨S128x1024, .f32⟩
  | .hbm, ⟨44, _⟩ => ⟨S1x1024, .f32⟩
  | .hbm, ⟨45, _⟩ => ⟨S128x1024, .f32⟩
  | .hbm, ⟨46, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.MixSpec.lean ====
/- The call that merges the two branches of the prompt, as plain functions of one token's rows. -/
module

public import Idealize.ShloMosaic.PureOps.Ideal.Laws

@[expose] public section

noncomputable section

namespace Cert.Row

open Idealize.ShloMosaic

/-- A row of 1024 entries divided by its root mean square (1024 and 1e-6 are the programs' constants) and scaled by
    the gains `g`. -/
def rms (x g : Fin 1024 → EReal) (k : Fin 1024) : EReal :=
  x k * Ideal.rsqrt (Ideal.div (∑ i, x i * x i) (Ideal.ofBits .f32 0x44800000#32) + Ideal.ofBits .f32 0x358637BD#32) * g k

/-- A gate: the logistic function of one column of a projection of the normalized row. -/
def gate (h : Fin 1024 → EReal) (w : Fin 1024 → EReal) : EReal :=
  Ideal.logistic (∑ k, h k * w k)

/-- One channel of the pooling branch's per-group linear map, scaled: channel `j` lies in group `j / 128`. -/
def poolOut (p : Fin 512 → EReal) (wg : Fin 4 → Fin 128 → Fin 128 → EReal) (s : Fin 512 → EReal) (j : Fin 512) : EReal :=
  (∑ c : Fin 128, p ⟨j.val / 128 * 128 + c.val, by omega⟩ * wg ⟨j.val / 128, by omega⟩ c ⟨j.val % 128, by omega⟩) * s j

/-- One channel of the gated sum of the two branches. -/
def merged (h : Fin 1024 → EReal) (wz : Fin 1024 → Fin 2048 → EReal) (p : Fin 512 → EReal)
    (wg : Fin 4 → Fin 128 → Fin 128 → EReal) (s : Fin 512 → EReal) (wpp : Fin 512 → Fin 1024 → EReal)
    (a : Fin 1024 → EReal) (wap : Fin 1024 → Fin 1024 → EReal) (k : Fin 1024) : EReal :=
  gate h (fun i => wz i ⟨k.val, by omega⟩) * (∑ j, poolOut p wg s j * wpp j k)
    + gate h (fun i => wz i ⟨1024 + k.val, by omega⟩) * (∑ j, a j * wap j k)

/-- One entry of the call's result: the residual plus the output projection of the gated sum. -/
def mix (x g : Fin 1024 → EReal) (wz : Fin 1024 → Fin 2048 → EReal) (p : Fin 512 → EReal)
    (wg : Fin 4 → Fin 128 → Fin 128 → EReal) (s : Fin 512 → EReal) (wpp : Fin 512 → Fin 1024 → EReal)
    (a : Fin 1024 → EReal) (wap wo : Fin 1024 → Fin 1024 → EReal) (n : Fin 1024) : EReal :=
  x n + ∑ k, merged (rms x g) wz p wg s wpp a wap k * wo k n

end Cert.Row

end
-- ==== Proof.MixBlock.lean ====
/- What one block of the merging call stores, entry by entry. -/
module

public import proofs.«01_k».proof.Proof.MixSpec
public import proofs.«01_k».proof.Proof.Gen.Kernel2Ideal.Skeleton
public import Idealize.ShloMosaic.Lib.Pipeline.ValueKit

@[expose] public section

set_option maxRecDepth 16384

noncomputable section

namespace Cert.Kernel2Ideal.Mix

open Cert.Kernel2Ideal Cert.Kernel2Ideal.Gen Idealize.ShloMosaic Idealize.ShloMosaic.TcCoe

/-- The block the body normalizes holds, row by row, the normalized rows. -/
theorem pay2_apply (x : FVec Ideal S1024x1024 .f32) (g : FVec Ideal S1x1024 .f32) (r k : Fin 1024) :
    k0_pay2 (F := Ideal) x g (ix2 r k) = Row.rms (fun i => x (ix2 r i)) (fun i => g (ix2 0 i)) k := by
  pointwise [k0_pay2, Row.rms]

/-- One group's linear map. -/
theorem pay3_apply (p : FVec Ideal S1024x128 .bf16) (w : FVec Ideal S1x128x128 .bf16) (r : Fin 1024) (d : Fin 128) :
    k0_pay3 (F := Ideal) p w (ix2 r d) = ∑ c : Fin 128, p (ix2 r c) * w (ix3 0 c d) := by
  pointwise [k0_pay3]

theorem pay4_apply (p : FVec Ideal S1024x128 .bf16) (w : FVec Ideal S1x128x128 .bf16) (r : Fin 1024) (d : Fin 128) :
    k0_pay4 (F := Ideal) p w (ix2 r d) = ∑ c : Fin 128, p (ix2 r c) * w (ix3 0 c d) := by
  pointwise [k0_pay4]

theorem pay5_apply (p : FVec Ideal S1024x128 .bf16) (w : FVec Ideal S1x128x128 .bf16) (r : Fin 1024) (d : Fin 128) :
    k0_pay5 (F := Ideal) p w (ix2 r d) = ∑ c : Fin 128, p (ix2 r c) * w (ix3 0 c d) := by
  pointwise [k0_pay5]

theorem pay7_apply (h : FVec Ideal S1024x1024 .bf16) (w : FVec Ideal S1024x512 .bf16) (r : Fin 1024) (d : Fin 512) :
    k0_pay7 (F := Ideal) h w (ix2 r d) = ∑ c : Fin 1024, h (ix2 r c) * w (ix2 c d) := by
  pointwise [k0_pay7]

/-- The four groups' columns laid side by side: column `j` is column `j % 128` of group `j / 128`. -/
theorem quarters {α : Type} (f : Fin 4 → Fin 128 → α) (x : Fin 512) :
    (if h : x.val < 128 then f 0 ⟨x.val, h⟩
      else if h : x.val - 128 < 128 then f 1 ⟨x.val - 128, h⟩
      else if h : x.val - 128 - 128 < 128 then f 2 ⟨x.val - 128 - 128, h⟩
      else f 3 ⟨x.val - 128 - 128 - 128, by omega⟩) = f ⟨x.val / 128, by omega⟩ ⟨x.val % 128, by omega⟩ := by
  split_ifs with h0 h1 h2
  · have e : x.val / 128 = 0 := by omega
    have e' : x.val % 128 = x.val := by omega
    simp only [e, e']; rfl
  · have e : x.val / 128 = 1 := by omega
    have e' : x.val % 128 = x.val - 128 := by omega
    simp only [e, e']; rfl
  · have e : x.val / 128 = 2 := by omega
    have e' : x.val % 128 = x.val - 128 - 128 := by omega
    simp only [e, e']; rfl
  · have e : x.val / 128 = 3 := by omega
    have e' : x.val % 128 = x.val - 128 - 128 - 128 := by omega
    simp only [e, e']; rfl

/-- The gate of the pooling branch times the projection of the pooling branch's output: `h` the normalized rows,
    `p` the pooled rows, whose four groups of columns the body reads one by one. -/
theorem pay6_apply (p : Fin 4 → FVec Ideal S1024x128 .bf16) (w : Fin 4 → FVec Ideal S1x128x128 .bf16)
    (s : FVec Ideal S1x512 .f32) (h : FVec Ideal S1024x1024 .bf16) (z₀ z₁ : FVec Ideal S1024x512 .bf16)
    (wpp : FVec Ideal S512x1024 .bf16) (r k : Fin 1024) :
    k0_pay6 (F := Ideal) (k0_pay3 (p 0) (w 0)) (k0_pay4 (p 1) (w 1)) (k0_pay5 (p 2) (w 2)) (p 3) (w 3) s h z₀ h z₁ wpp
        (ix2 r k)
      = Row.gate (fun i => h (ix2 r i)) (fun i => if hk : k.val < 512 then z₀ (ix2 i ⟨k.val, hk⟩)
            else z₁ (ix2 i ⟨k.val - 512, by omega⟩))
        * ∑ j : Fin 512, (∑ c : Fin 128, p ⟨j.val / 128, by omega⟩ (ix2 r c)
              * w ⟨j.val / 128, by omega⟩ (ix3 0 c ⟨j.val % 128, by omega⟩)) * s (ix2 0 j) * wpp (ix2 j k) := by
  have q := fun x => quarters (fun g d => ∑ c : Fin 128, p g (ix2 r c) * w g (ix3 0 c d)) x
  pointwise [k0_pay6, Row.gate, k0_pay3, k0_pay4, k0_pay5]
  refine congrArg₂ (· * ·) (congrArg _ ?_) (Finset.sum_congr rfl fun x _ => ?_)
  · split_ifs <;> rfl
  · exact congrArg₂ (· * ·) (congrArg₂ (· * ·) (q x) rfl) rfl

/-- The whole payload: the residual plus the output projection of the gated sum. -/
theorem pay1_apply (x v : FVec Ideal S1024x1024 .f32) (h : FVec Ideal S1024x1024 .bf16) (z₂ z₃ : FVec Ideal S1024x512 .bf16)
    (a wap wo : FVec Ideal S1024x1024 .bf16) (r n : Fin 1024) :
    k0_pay1 (F := Ideal) x v (k0_pay7 h z₂) h z₃ a wap wo (ix2 r n)
      = x (ix2 r n) + ∑ k : Fin 1024, (v (ix2 r k)
          + Row.gate (fun i => h (ix2 r i)) (fun i => if hk : k.val < 512 then z₂ (ix2 i ⟨k.val, hk⟩)
            else z₃ (ix2 i ⟨k.val - 512, by omega⟩)) * ∑ j, a (ix2 r j) * wap (ix2 j k)) * wo (ix2 k n) := by
  pointwise [k0_pay1, Row.gate, k0_pay7]

/-- The four column groups of the pooled rows, as the body loads them. -/
def pooledGroup (x : FVec Ideal S1024x512 .bf16) : Fin 4 → FVec Ideal S1024x128 .bf16 :=
  ![View.ld (Val := Elt Ideal) (e' := .bf16) x (Rect.unit (s := S1024x512) ![0, 0] S1024x128.size inb_S1024x512_S1024x128_0_0),
    View.ld (Val := Elt Ideal) (e' := .bf16) x (Rect.unit (s := S1024x512) ![0, 128] S1024x128.size inb_S1024x512_S1024x128_0_128),
    View.ld (Val := Elt Ideal) (e' := .bf16) x (Rect.unit (s := S1024x512) ![0, 256] S1024x128.size inb_S1024x512_S1024x128_0_256),
    View.ld (Val := Elt Ideal) (e' := .bf16) x (Rect.unit (s := S1024x512) ![0, 384] S1024x128.size inb_S1024x512_S1024x128_0_384)]

/-- The four groups' maps, as the body loads them. -/
def groupMap (x : FVec Ideal S4x128x128 .bf16) : Fin 4 → FVec Ideal S1x128x128 .bf16 :=
  ![View.ld (Val := Elt Ideal) (e' := .bf16) x (Rect.unit (s := S4x128x128) ![0, 0, 0] S1x128x128.size inb_S4x128x128_S1x128x128_0_0_0),
    View.ld (Val := Elt Ideal) (e' := .bf16) x (Rect.unit (s := S4x128x128) ![1, 0, 0] S1x128x128.size inb_S4x128x128_S1x128x128_1_0_0),
    View.ld (Val := Elt Ideal) (e' := .bf16) x (Rect.unit (s := S4x128x128) ![2, 0, 0] S1x128x128.size inb_S4x128x128_S1x128x128_2_0_0),
    View.ld (Val := Elt Ideal) (e' := .bf16) x (Rect.unit (s := S4x128x128) ![3, 0, 0] S1x128x128.size inb_S4x128x128_S1x128x128_3_0_0)]

theorem pooledGroup_apply (x : FVec Ideal S1024x512 .bf16) (g : Fin 4) (r : Fin 1024) (c : Fin 128) :
    pooledGroup x g (ix2 r c) = x (ix2 r ⟨g.val * 128 + c.val, by omega⟩) := by
  fin_cases g <;> simp only [pooledGroup, groupMap, Fin.zero_eta, Fin.mk_one, Fin.reduceFinMk, Matrix.cons_val] <;>
    refine View.ld_unit_apply_of _ _ _ _ _ _ (fun a => ?_) <;> fin_cases a <;> simp

theorem groupMap_apply (x : FVec Ideal S4x128x128 .bf16) (g : Fin 4) (c d : Fin 128) :
    groupMap x g (ix3 0 c d) = x (ix3 g c d) := by
  fin_cases g <;> simp only [pooledGroup, groupMap, Fin.zero_eta, Fin.mk_one, Fin.reduceFinMk, Matrix.cons_val] <;>
    refine View.ld_unit_apply_of _ _ _ _ _ _ (fun a => ?_) <;> fin_cases a <;> simp

/-- What the body stores, over its input blocks. -/
def stored (x0 : FVec Ideal S1024x1024 .f32) (x1 : FVec Ideal S1x1024 .f32) (x2 : FVec Ideal S1024x512 .bf16)
    (x3 : FVec Ideal S1024x1024 .bf16) (x4 x5 x6 x7 : FVec Ideal S1024x512 .bf16) (x8 : FVec Ideal S4x128x128 .bf16)
    (x9 : FVec Ideal S1x512 .f32) (x10 : FVec Ideal S512x1024 .bf16) (x11 x12 : FVec Ideal S1024x1024 .bf16) :
    FVec Ideal S1024x1024 .f32 :=
  k0_pay1 (F := Ideal) x0
    (k0_pay6 (k0_pay3 (pooledGroup x2 0) (groupMap x8 0)) (k0_pay4 (pooledGroup x2 1) (groupMap x8 1))
      (k0_pay5 (pooledGroup x2 2) (groupMap x8 2)) (pooledGroup x2 3) (groupMap x8 3) x9
      (k0_pay2 (F := Ideal) x0 x1) x4 (k0_pay2 (F := Ideal) x0 x1) x5 x10)
    (k0_pay7 (k0_pay2 (F := Ideal) x0 x1) x6) (k0_pay2 (F := Ideal) x0 x1) x7 x3 x11 x12

/-- One entry of what the body stores is the row function of the rows its blocks hold: `wz`, the gates' projection, is
    held in four blocks of 512 columns. -/
theorem stored_apply {x0 : FVec Ideal S1024x1024 .f32} {x1 : FVec Ideal S1x1024 .f32} {x2 : FVec Ideal S1024x512 .bf16}
    {x3 : FVec Ideal S1024x1024 .bf16} {x4 x5 x6 x7 : FVec Ideal S1024x512 .bf16} {x8 : FVec Ideal S4x128x128 .bf16}
    {x9 : FVec Ideal S1x512 .f32} {x10 : FVec Ideal S512x1024 .bf16} {x11 x12 : FVec Ideal S1024x1024 .bf16}
    {x g : Fin 1024 → EReal} {wz : Fin 1024 → Fin 2048 → EReal} {p : Fin 512 → EReal}
    {wg : Fin 4 → Fin 128 → Fin 128 → EReal} {s : Fin 512 → EReal} {wpp : Fin 512 → Fin 1024 → EReal}
    {a : Fin 1024 → EReal} {wap wo : Fin 1024 → Fin 1024 → EReal} (r n : Fin 1024)
    (h0 : ∀ k, x0 (ix2 r k) = x k) (h1 : ∀ k, x1 (ix2 0 k) = g k) (h2 : ∀ j, x2 (ix2 r j) = p j)
    (h3 : ∀ j, x3 (ix2 r j) = a j) (h4 : ∀ i (j : Fin 512), x4 (ix2 i j) = wz i ⟨j.val, by omega⟩)
    (h5 : ∀ i (j : Fin 512), x5 (ix2 i j) = wz i ⟨512 + j.val, by omega⟩)
    (h6 : ∀ i (j : Fin 512), x6 (ix2 i j) = wz i ⟨1024 + j.val, by omega⟩)
    (h7 : ∀ i (j : Fin 512), x7 (ix2 i j) = wz i ⟨1536 + j.val, by omega⟩)
    (h8 : ∀ g c d, x8 (ix3 g c d) = wg g c d) (h9 : ∀ j, x9 (ix2 0 j) = s j) (h10 : ∀ j k, x10 (ix2 j k) = wpp j k)
    (h11 : ∀ j k, x11 (ix2 j k) = wap j k) (h12 : ∀ k n, x12 (ix2 k n) = wo k n) :
    stored x0 x1 x2 x3 x4 x5 x6 x7 x8 x9 x10 x11 x12 (ix2 r n) = Row.mix x g wz p wg s wpp a wap wo n := by
  have eh : (fun i => k0_pay2 (F := Ideal) x0 x1 (ix2 r i)) = Row.rms x g := by
    funext k; rw [pay2_apply]; simp only [h0, h1]
  have e0 : ∀ k : Fin 1024, (fun i => if hk : k.val < 512 then x4 (ix2 i ⟨k.val, hk⟩)
      else x5 (ix2 i ⟨k.val - 512, by omega⟩)) = fun i => wz i ⟨k.val, by omega⟩ := by
    intro k; funext i; split_ifs with hk
    · exact h4 i _
    · rw [h5]; exact congrArg (wz i) (Fin.ext (by show 512 + (k.val - 512) = k.val; omega))
  have e1 : ∀ k : Fin 1024, (fun i => if hk : k.val < 512 then x6 (ix2 i ⟨k.val, hk⟩)
      else x7 (ix2 i ⟨k.val - 512, by omega⟩)) = fun i => wz i ⟨1024 + k.val, by omega⟩ := by
    intro k; funext i; split_ifs with hk
    · exact h6 i _
    · rw [h7]; exact congrArg (wz i) (Fin.ext (by show 1536 + (k.val - 512) = 1024 + k.val; omega))
  rw [stored, pay1_apply]
  simp only [pay6_apply (pooledGroup x2) (groupMap x8)]
  simp only [eh, e0, e1, pooledGroup_apply, groupMap_apply, h0, h2, h3, h8, h9, h10, h11, h12, Row.mix, Row.merged,
    Row.poolOut]

end Cert.Kernel2Ideal.Mix

end
-- ==== Proof.MixArray.lean ====
/- What the merging call's result array holds after the run. -/
module

public import proofs.«01_k».proof.Proof.MixBlock
public import proofs.«01_k».proof.Proof.Gen.Kernel2Ideal.Value

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The result array, entry by entry, over the argument arrays. -/
def result (x0 : FVec Ideal S16384x1024 .f32) (x1 : FVec Ideal S1x1024 .f32) (x2 : FVec Ideal S16384x512 .bf16)
    (x3 : FVec Ideal S16384x1024 .bf16) (x4 : FVec Ideal S1x1024x5632 .f32) (x5 : FVec Ideal S1x4x128x128 .f32)
    (x6 : FVec Ideal S1x512 .f32) (x7 : FVec Ideal S1x512x1024 .f32) (x8 x9 : FVec Ideal S1x1024x1024 .f32) :
    FVec Ideal S16384x1024 .f32 := fun i =>
  Row.mix (fun k => x0 (ix2 (i 0) k)) (fun k => x1 (ix2 0 k)) (fun k j => x4 (ix3 0 k ⟨3584 + j.val, by omega⟩))
    (fun j => x2 (ix2 (i 0) j)) (fun g c d => x5 (ix4 0 g c d)) (fun j => x6 (ix2 0 j)) (fun j k => x7 (ix3 0 j k))
    (fun j => x3 (ix2 (i 0) j)) (fun j k => x8 (ix3 0 j k)) (fun k n => x9 (ix3 0 k n)) (i 1)

/-- The block of every window at a step: the row windows take the step's rows, the gates' windows the four last column
    blocks of the input projection, the others the whole array. -/
theorem idx : ∀ t : Fin cfg0.N, win0_0.index t = ![t.val, 0] ∧ win0_1.index t = ![0, 0] ∧ win0_2.index t = ![t.val, 0] ∧
    win0_3.index t = ![t.val, 0] ∧ win0_4.index t = ![0, 7] ∧ win0_5.index t = ![0, 8] ∧ win0_6.index t = ![0, 9] ∧
    win0_7.index t = ![0, 10] ∧ win0_8.index t = ![0, 0, 0] ∧ win0_9.index t = ![0, 0] ∧ win0_10.index t = ![0, 0] ∧
    win0_11.index t = ![0, 0] ∧ win0_12.index t = ![0, 0] ∧ win0_13.index t = ![t.val, 0] :=
  (by decide +kernel : ∀ t : Fin grid0.N, _)

section Reads

variable (c : Dev nD) (t : Fin cfg0.N)

/-- A row of the activations, in its block. -/
theorem read0 (r k : Fin 1024) : iblk m c 0 t (ix2 r k)
    = m ((c : Thread nD τ).loc main_arg0) (ix2 ⟨t.val * 1024 + r.val, by have := t.isLt; change t.val < 16 at this; omega⟩ k) := by
  blk_point [iblk, V, idx t]

/-- The norm's weights, in their block. -/
theorem read1 (k : Fin 1024) : iblk m c 1 t (ix2 0 k) = m ((c : Thread nD τ).loc main_arg1) (ix2 0 k) := by
  blk_point [iblk, V, idx t]

/-- A row of the pooled features, in its block. -/
theorem read2 (r : Fin 1024) (k : Fin 512) : iblk m c 2 t (ix2 r k)
    = m ((c : Thread nD τ).loc main_arg2) (ix2 ⟨t.val * 1024 + r.val, by have := t.isLt; change t.val < 16 at this; omega⟩ k) := by
  blk_point [iblk, V, idx t]

/-- A row of the attention's output, in its block. -/
theorem read3 (r k : Fin 1024) : iblk m c 3 t (ix2 r k)
    = m ((c : Thread nD τ).loc main_arg3) (ix2 ⟨t.val * 1024 + r.val, by have := t.isLt; change t.val < 16 at this; omega⟩ k) := by
  blk_point [iblk, V, idx t]

/-- The gates' projection, first of its four blocks of 512 columns. -/
theorem read4 (i : Fin 1024) (j : Fin 512) : iblk m c 4 t (ix2 i j)
    = m ((c : Thread nD τ).loc main_arg4) (ix3 0 i ⟨3584 + j.val, by omega⟩) := by
  blk_point [iblk, V, idx t]

/-- The gates' projection, second block. -/
theorem read5 (i : Fin 1024) (j : Fin 512) : iblk m c 5 t (ix2 i j)
    = m ((c : Thread nD τ).loc main_arg4) (ix3 0 i ⟨3584 + (512 + j.val), by omega⟩) := by
  blk_point [iblk, V, idx t]

/-- The gates' projection, third block. -/
theorem read6 (i : Fin 1024) (j : Fin 512) : iblk m c 6 t (ix2 i j)
    = m ((c : Thread nD τ).loc main_arg4) (ix3 0 i ⟨3584 + (1024 + j.val), by omega⟩) := by
  blk_point [iblk, V, idx t]

/-- The gates' projection, fourth block. -/
theorem read7 (i : Fin 1024) (j : Fin 512) : iblk m c 7 t (ix2 i j)
    = m ((c : Thread nD τ).loc main_arg4) (ix3 0 i ⟨3584 + (1536 + j.val), by omega⟩) := by
  blk_point [iblk, V, idx t]

/-- The groups' maps, in their block. -/
theorem read8 (g : Fin 4) (j k : Fin 128) : iblk m c 8 t (ix3 g j k)
    = m ((c : Thread nD τ).loc main_arg5) (ix4 0 g j k) := by
  blk_point [iblk, V, idx t]

/-- The groups' scales, in their block. -/
theorem read9 (j : Fin 512) : iblk m c 9 t (ix2 0 j) = m ((c : Thread nD τ).loc main_arg6) (ix2 0 j) := by
  blk_point [iblk, V, idx t]

/-- The pooled projection, in its block. -/
theorem read10 (j : Fin 512) (k : Fin 1024) : iblk m c 10 t (ix2 j k)
    = m ((c : Thread nD τ).loc main_arg7) (ix3 0 j k) := by
  blk_point [iblk, V, idx t]

/-- The attention's projection, in its block. -/
theorem read11 (j k : Fin 1024) : iblk m c 11 t (ix2 j k)
    = m ((c : Thread nD τ).loc main_arg8) (ix3 0 j k) := by
  blk_point [iblk, V, idx t]

/-- The output projection, in its block. -/
theorem read12 (j k : Fin 1024) : iblk m c 12 t (ix2 j k)
    = m ((c : Thread nD τ).loc main_arg9) (ix3 0 j k) := by
  blk_point [iblk, V, idx t]

end Reads

/-- After the run the result array holds, at every entry, the row function of that row. -/
theorem final (c : Dev nD) : (dats m 0 c).arrAt 13 (cfgs 0).N
    = result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  refine (dats m 0 c).arrAt_eq_of_covers 13 _ (by decide +kernel) fun t _ y => ?_
  blk_simp
  rw [after0_13]; unfold outsAt0; frame_out
  have ht : t.val < 16 := t.isLt
  have ey : y = ix2 (y 0) (y 1) := by funext a; fin_cases a <;> rfl
  rw [ey]
  refine (stored_apply (wz := fun k j => m ((c : Thread nD τ).loc main_arg4) (ix3 0 k ⟨3584 + j.val, by omega⟩))
    (y 0) (y 1) (read0 m c t _) (read1 m c t) (read2 m c t _) (read3 m c t _) (read4 m c t) (read5 m c t)
    (read6 m c t) (read7 m c t) (read8 m c t) (read9 m c t) (read10 m c t) (read11 m c t) (read12 m c t)).trans ?_
  have e0 : (((View.whole main_v14).slice (win0_13.rect t)).emb (ix2 (y 0) (y 1))) = ix2 ⟨t.val * 1024 + (y 0).val, by
      have : (y 0).val < 1024 := (y 0).isLt; omega⟩ (y 1) := by blk_ext [idx t]
  exact (congrArg (result _ _ _ _ _ _ _ _ _ _) e0).symm

end Cert.Kernel2Ideal.Mix

end
-- ==== Proof.MixRef.lean ====
/- The merging's reference, entry by entry. -/
module

public import proofs.«01_k».proof.Proof.MixSpec
public import proofs.«01_k».proof.Proof.Gen.Reference2Ideal.Read
public import Idealize.ShloMosaic.Lib.Pipeline.ValueKit

@[expose] public section

set_option maxRecDepth 16384

noncomputable section

namespace Cert.Reference2Ideal.Mix

open Cert.Reference2Ideal Cert.Reference2Ideal.Gen Cert.Reference2Ideal.Read Idealize.ShloMosaic
open scoped BigOperators

/-- The normalised row. -/
theorem norm (x0 : FVec Ideal S16384x1024 .f32) (x1 : FVec Ideal S1x1024 .f32) (r : Fin 16384) (k : Fin 1024) :
    val_main_v13 (F := Ideal) x0 x1 (ix2 r k) = Row.rms (fun k => x0 (ix2 r k)) (fun k => x1 (ix2 0 k)) k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, Row.rms]

/-- The gate of one column of the first half. -/
theorem gate0 (x0 : FVec Ideal S16384x1024 .f32) (x1 : FVec Ideal S1x1024 .f32) (x4 : FVec Ideal S1x1024x5632 .f32)
    (r : Fin 16384) (k : Fin 1024) : val_main_v23 (F := Ideal) x0 x1 x4 (ix2 r k)
      = Row.gate (Row.rms (fun k => x0 (ix2 r k)) (fun k => x1 (ix2 0 k)))
          (fun i => x4 (ix3 0 i ⟨3584 + k.val, by omega⟩)) := by
  have h : Row.rms (fun k => x0 (ix2 r k)) (fun k => x1 (ix2 0 k)) = fun k => val_main_v13 (F := Ideal) x0 x1 (ix2 r k) :=
    funext fun k => (norm x0 x1 r k).symm
  rw [h]
  pointwise [val_main_v14, val_main_v15, val_main_v16, val_main_v17, val_main_v18, val_main_v19, val_main_cst_2, val_main_v20, val_main_v21, val_main_cst_3, val_main_v22, val_main_v23, Row.gate]
  rfl

/-- The gate of one column of the second half. -/
theorem gate1 (x0 : FVec Ideal S16384x1024 .f32) (x1 : FVec Ideal S1x1024 .f32) (x4 : FVec Ideal S1x1024x5632 .f32)
    (r : Fin 16384) (k : Fin 1024) : val_main_v30 (F := Ideal) x0 x1 x4 (ix2 r k)
      = Row.gate (Row.rms (fun k => x0 (ix2 r k)) (fun k => x1 (ix2 0 k)))
          (fun i => x4 (ix3 0 i ⟨3584 + (1024 + k.val), by omega⟩)) := by
  have h : Row.rms (fun k => x0 (ix2 r k)) (fun k => x1 (ix2 0 k)) = fun k => val_main_v13 (F := Ideal) x0 x1 (ix2 r k) :=
    funext fun k => (norm x0 x1 r k).symm
  rw [h]
  pointwise [val_main_v14, val_main_v15, val_main_v16, val_main_v24, val_main_v25, val_main_v26, val_main_cst_4, val_main_v27, val_main_v28, val_main_cst_5, val_main_v29, val_main_v30, Row.gate]
  rfl

/-- The pooling branch's channels. -/
theorem pool (x2 : FVec Ideal S16384x512 .bf16) (x5 : FVec Ideal S1x4x128x128 .f32) (x6 : FVec Ideal S1x512 .f32)
    (r : Fin 16384) (j : Fin 512) : val_main_v40 (F := Ideal) x2 x5 x6 (ix2 r j)
      = Row.poolOut (fun j => x2 (ix2 r j)) (fun g c d => x5 (ix4 0 g c d)) (fun j => x6 (ix2 0 j)) j := by
  pointwise [val_main_v31, val_main_v32, val_main_v33, val_main_v34, val_main_v35, val_main_v36, val_main_v37, val_main_v38, val_main_v39, val_main_v40, Row.poolOut]
  exact congrArg (· * _) (Finset.sum_congr rfl fun _ _ => mul_comm _ _)

/-- The reference's result is the row function of every row. -/
theorem value (x0 : FVec Ideal S16384x1024 .f32) (x1 : FVec Ideal S1x1024 .f32) (x2 : FVec Ideal S16384x512 .bf16)
    (x3 : FVec Ideal S16384x1024 .bf16) (x4 : FVec Ideal S1x1024x5632 .f32) (x5 : FVec Ideal S1x4x128x128 .f32)
    (x6 : FVec Ideal S1x512 .f32) (x7 : FVec Ideal S1x512x1024 .f32) (x8 x9 : FVec Ideal S1x1024x1024 .f32)
    (r : Fin 16384) (n : Fin 1024) : val_main_v51 (F := Ideal) x0 x1 x2 x3 x4 x5 x6 x7 x8 x9 (ix2 r n)
      = Row.mix (fun k => x0 (ix2 r k)) (fun k => x1 (ix2 0 k)) (fun k j => x4 (ix3 0 k ⟨3584 + j.val, by omega⟩))
        (fun j => x2 (ix2 r j)) (fun g c d => x5 (ix4 0 g c d)) (fun j => x6 (ix2 0 j)) (fun j k => x7 (ix3 0 j k))
        (fun j => x3 (ix2 r j)) (fun j k => x8 (ix3 0 j k)) (fun k n => x9 (ix3 0 k n)) n := by
  simp only [Row.mix, Row.merged, ← gate0, ← gate1, ← pool]
  pointwise [val_main_v41, val_main_v42, val_main_v43, val_main_v44, val_main_v45, val_main_v46, val_main_v47, val_main_v48, val_main_v49, val_main_v50, val_main_v51]

end Cert.Reference2Ideal.Mix

end
-- ==== Proof.MixClaims.lean ====
/- The merging call's claims: its runs, and that its result and its reference's are equal. -/
module

public import proofs.«01_k».proof.Defs
public import proofs.«01_k».proof.Proof.Gen.Kernel2.Frame
public import proofs.«01_k».proof.Proof.MixArray
public import proofs.«01_k».proof.Proof.MixRef
public import proofs.«01_k».proof.Proof.Gen.Reference2Ideal.Run
public import Idealize.ShloMosaic.Adequacy
public import Idealize.ShloMosaic.Init
public import Idealize.ShloMosaic.Lib.Claim

@[expose] public section

set_option maxRecDepth 16384

noncomputable section

namespace Cert.Proof.Mix

open Idealize.ShloMosaic Idealize.SL.Sem

attribute [local instance] Cert.Kernel2.Gen.facts Cert.Kernel2Ideal.Gen.facts Cert.Reference2Ideal.Gen.facts

/-- The kernel runs and leaves its arguments as they were. -/
theorem frame : Cert.quiescent_Kernel2 := by
  intro m g _
  exact Cert.Kernel2.Gen.frame m g

/-- So does the kernel over the reals. -/
theorem frame_ideal : Cert.quiescent_Kernel2Ideal := by
  intro m g _
  exact Cert.Kernel2Ideal.Gen.frame m g

/-- So does its reference. -/
theorem frame_reference : Cert.quiescent_Reference2Ideal := by
  intro m g _
  exact (θ_run Cert.Reference2Ideal.defs _ _).mono (fun r h => ⟨fun c => (h c).2, sem_eq_zero_of_no_sems (by decide) r.2⟩)
    (Cert.Reference2Ideal.Value.run m g)

/-- An index of the result, by its two coordinates. -/
theorem ix_eq (i : Cert.Reference2Ideal.S16384x1024.Idx) : i = ix2 (i 0) (i 1) := by
  funext a; fin_cases a <;> rfl

/-- The kernel's result equals its reference's. -/
theorem equal : Cert.algebraic_Kernel2Ideal_Reference2Ideal := by
  pair_intro
  · run_from Cert.Kernel2Ideal.Value.run_blocks m g
  · run_from Cert.Reference2Ideal.Value.run m' g'
    rw [Cert.Kernel2Ideal.Mix.final m c]
    exact funext fun i => ((congrArg _ (Cert.Proof.Mix.ix_eq i)).trans (Cert.Reference2Ideal.Mix.value _ _ _ _ _ _ _ _ _ _ (i 0) (i 1)))

end Cert.Proof.Mix

end
-- ==== Proof.AttnSpec.lean ====
/- A softmax-weighted sum computed block by block, as plain functions of one query's scores. -/
module

public import Idealize.ShloMosaic.PureOps.Ideal.Laws

@[expose] public section

noncomputable section

namespace Cert.Soft

open Idealize.ShloMosaic

/-- A finite sum of real numbers, read among the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The keys that query `Q` may see among the first `n`. -/
def keys (Q n : ℕ) : Finset ℕ := (Finset.range n).filter (· ≤ Q)

/-- `M` is a real shift, and `A d` the sum over the keys seen so far of two to the power of the shifted score, times
    the value's coordinate `d`: what a blockwise softmax carries from block to block. -/
def Acc {D : Type} (s : ℕ → ℝ) (v : ℕ → D → ℝ) (Q n : ℕ) (M : EReal) (A : D → EReal) : Prop :=
  ∃ μ : ℝ, M = (μ : EReal) ∧ ∀ d, A d = ((∑ k ∈ keys Q n, (2 : ℝ) ^ (s k - μ) * v k d : ℝ) : EReal)

/-- A column of a block's scores: the scores of `n` keys from `base` on, those after the query at minus infinity. -/
def Scores (s : ℕ → ℝ) (Q base : ℕ) {n : ℕ} (S : Fin n → EReal) : Prop :=
  ∀ k : Fin n, S k = if base + k.val ≤ Q then (s (base + k.val) : EReal) else ⊥

/-- Two to the power of a shifted score of a block, which is zero for a key after the query. -/
theorem Scores.exp2 {s : ℕ → ℝ} {Q base n : ℕ} {S : Fin n → EReal} (h : Scores s Q base S) (μ : ℝ) (k : Fin n) :
    Ideal.exp2 (S k - (μ : EReal)) = ((if base + k.val ≤ Q then (2 : ℝ) ^ (s (base + k.val) - μ) else 0 : ℝ) : EReal) := by
  rw [h k]
  split
  · rw [← EReal.coe_sub, Ideal.exp2_coe]; rfl
  · rw [EReal.bot_sub, Ideal.exp2_bot]; rfl

/-- A block's part of the weighted sum. -/
theorem Scores.sum {D : Type} {s : ℕ → ℝ} {v : ℕ → D → ℝ} {Q base n : ℕ} {S : Fin n → EReal} (h : Scores s Q base S)
    (μ : ℝ) (w : Fin n → D → EReal) (hw : ∀ k d, w k d = (v (base + k.val) d : EReal)) (d : D) :
    ∑ k, w k d * Ideal.exp2 (S k - (μ : EReal))
      = ((∑ k ∈ (Finset.Ico base (base + n)).filter (· ≤ Q), (2 : ℝ) ^ (s k - μ) * v k d : ℝ) : EReal) := by
  rw [Finset.sum_filter, Finset.sum_Ico_eq_sum_range, Nat.add_sub_cancel_left,
    ← Fin.sum_univ_eq_sum_range (fun i => if base + i ≤ Q then (2 : ℝ) ^ (s (base + i) - μ) * v (base + i) d else 0) n,
    coe_sum]
  refine Finset.sum_congr rfl fun k _ => ?_
  rw [h.exp2, hw, ← EReal.coe_mul]
  congr 1
  split <;> ring

/-- The greatest score of a block that holds a key which the query may see is a real number. -/
theorem Scores.max_real {s : ℕ → ℝ} {Q base n : ℕ} {S : Fin n → EReal} (h : Scores s Q base S) (hn : 0 < n)
    (hQ : base ≤ Q) : ∃ μ : ℝ, Finset.univ.fold max ⊥ S = (μ : EReal) := by
  have e : Finset.univ.fold max ⊥ S = Finset.univ.sup S := rfl
  rw [e]
  have hlow : ((s base : ℝ) : EReal) ≤ Finset.univ.sup S := by
    have := Finset.le_sup (f := S) (Finset.mem_univ (⟨0, hn⟩ : Fin n))
    rw [h ⟨0, hn⟩] at this
    simpa [hQ] using this
  have htop : Finset.univ.sup S < ⊤ := by
    rw [Finset.sup_lt_iff (by exact bot_lt_top)]
    intro k _
    rw [h k]
    split
    · exact EReal.coe_lt_top _
    · exact bot_lt_top
  exact ⟨(Finset.univ.sup S).toReal, (EReal.coe_toReal htop.ne (ne_of_gt (lt_of_lt_of_le (EReal.bot_lt_coe _) hlow))).symm⟩

/-- The keys among the first `base + n` are those among the first `base` and those of the next block. -/
theorem sum_keys (Q base n : ℕ) (f : ℕ → ℝ) :
    ∑ k ∈ keys Q (base + n), f k = ∑ k ∈ keys Q base, f k + ∑ k ∈ (Finset.Ico base (base + n)).filter (· ≤ Q), f k := by
  unfold keys
  rw [Finset.sum_filter, Finset.sum_filter, Finset.sum_filter, Finset.sum_range_add_sum_Ico _ (Nat.le_add_right base n)]

/-- The first block. -/
theorem Acc.first {D : Type} {s : ℕ → ℝ} {v : ℕ → D → ℝ} {Q n : ℕ} {S : Fin n → EReal} (h : Scores s Q 0 S) (hn : 0 < n)
    {w : Fin n → D → EReal} (hw : ∀ k d, w k d = (v (0 + k.val) d : EReal)) :
    Acc s v Q n (Finset.univ.fold max ⊥ S)
      (fun d => ∑ k, w k d * Ideal.exp2 (S k - Finset.univ.fold max ⊥ S)) := by
  obtain ⟨μ, hμ⟩ := h.max_real hn (Nat.zero_le _)
  refine ⟨μ, hμ, fun d => ?_⟩
  beta_reduce
  rw [hμ, h.sum μ w hw d]
  unfold keys
  rw [Nat.zero_add, Finset.range_eq_Ico]

/-- A later block: the shift becomes the greater of the old one and the block's greatest score, the old sums are
    scaled to it, and the block's part is added. -/
theorem Acc.next {D : Type} {s : ℕ → ℝ} {v : ℕ → D → ℝ} {Q base n : ℕ} {M : EReal} {A : D → EReal} (ha : Acc s v Q base M A)
    {S : Fin n → EReal} (h : Scores s Q base S) (hn : 0 < n) (hQ : base ≤ Q)
    {w : Fin n → D → EReal} (hw : ∀ k d, w k d = (v (base + k.val) d : EReal)) :
    Acc s v Q (base + n) (max M (Finset.univ.fold max ⊥ S))
      (fun d => Ideal.exp2 (M - max M (Finset.univ.fold max ⊥ S)) * A d
        + ∑ k, w k d * Ideal.exp2 (S k - max M (Finset.univ.fold max ⊥ S))) := by
  obtain ⟨μ, hμ⟩ := h.max_real hn hQ
  obtain ⟨ν, hν, hA⟩ := ha
  have hm : max M (Finset.univ.fold max ⊥ S) = ((max ν μ : ℝ) : EReal) := by
    rw [hμ, hν]; exact (EReal.coe_strictMono.monotone.map_max).symm
  refine ⟨max ν μ, hm, fun d => ?_⟩
  beta_reduce
  rw [hm, h.sum _ w hw d, hν, hA d, ← EReal.coe_sub, Ideal.exp2_coe, ← EReal.coe_mul, ← EReal.coe_add, sum_keys,
    Finset.mul_sum]
  congr 2
  refine Finset.sum_congr rfl fun k _ => ?_
  change (2 : ℝ) ^ (ν - max ν μ) * _ = _
  rw [← mul_assoc, ← Real.rpow_add two_pos]
  congr 2
  ring

/-- The softmax-weighted mean of the values: scores `s` over the keys up to `Q`, in base `e`. -/
def mean (s : ℕ → ℝ) (v : ℕ → ℝ) (Q : ℕ) : ℝ :=
  (∑ k ∈ Finset.range (Q + 1), Real.exp (s k) * v k) / ∑ k ∈ Finset.range (Q + 1), Real.exp (s k)

/-- Once all keys up to the query are in, they are the numbers up to the query. -/
theorem keys_eq {Q n : ℕ} (h : Q < n) : keys Q n = Finset.range (Q + 1) := by
  unfold keys
  ext k
  simp only [Finset.mem_filter, Finset.mem_range]
  omega

/-- A softmax does not depend on its shift: the quotient of two shifted sums is the mean. -/
theorem mean_shift (s : ℕ → ℝ) (v : ℕ → ℝ) (Q : ℕ) (μ : ℝ) :
    (∑ k ∈ Finset.range (Q + 1), Real.exp (s k - μ) * v k) / (∑ k ∈ Finset.range (Q + 1), Real.exp (s k - μ))
      = mean s v Q := by
  unfold mean
  have e : ∀ k, Real.exp (s k - μ) = Real.exp (-μ) * Real.exp (s k) := fun k => by
    rw [← Real.exp_add]; congr 1; ring
  simp only [e, mul_assoc]
  rw [← Finset.mul_sum, ← Finset.mul_sum, mul_div_mul_left _ _ (Real.exp_ne_zero _)]

/-- The sum of the weights is positive. -/
theorem weight_pos (s : ℕ → ℝ) (Q : ℕ) (μ : ℝ) : 0 < ∑ k ∈ Finset.range (Q + 1), Real.exp (s k - μ) :=
  Finset.sum_pos (fun _ _ => Real.exp_pos _) ⟨0, by simp⟩

/-- The carried sums, divided by the carried sum of ones, are the mean in base `e` of the scores times `log 2`. -/
theorem Acc.quot {D : Type} {s : ℕ → ℝ} {v : ℕ → D → ℝ} {Q n : ℕ} {M : EReal} {A : D → EReal} (h : Acc s v Q n M A)
    (hQ : Q < n) (one d : D) (h1 : ∀ k, v k one = 1) :
    A d * Ideal.div 1 (A one) = (mean (fun k => s k * Real.log 2) (fun k => v k d) Q : EReal) := by
  obtain ⟨μ, -, hA⟩ := h
  have e : ∀ k, (2 : ℝ) ^ (s k - μ) = Real.exp (s k * Real.log 2 - μ * Real.log 2) := fun k => by
    rw [Real.rpow_def_of_pos two_pos]; congr 1; ring
  rw [hA d, hA one, keys_eq hQ]
  simp only [h1, e, mul_one]
  have hp := weight_pos (fun k => s k * Real.log 2) Q (μ * Real.log 2)
  rw [← mean_shift _ _ _ (μ * Real.log 2)]
  unfold Ideal.div
  rw [if_neg (by exact_mod_cast hp.ne'), one_mul, ← EReal.coe_inv, ← EReal.coe_mul, div_eq_mul_inv]

end Cert.Soft

end
-- ==== Proof.AttnBlock.lean ====
/- The attention kernel's steps, read entry by entry. -/
module

public import proofs.«01_k».proof.Proof.AttnSpec
public import proofs.«01_k».proof.Proof.Gen.Kernel3Ideal.Skeleton
public import Idealize.ShloMosaic.Lib.Pipeline.ValueKit
public import Idealize.ShloMosaic.Lib.Pipeline.ReadBack

@[expose] public section

set_option maxRecDepth 16384

noncomputable section

namespace Cert.Kernel3Ideal.Attn

open Cert.Kernel3Ideal Cert.Kernel3Ideal.Gen Cert.Soft Idealize.ShloMosaic Idealize.ShloMosaic.TcCoe

/-! ## Reading a scratch back -/

section Reads

variable {κ : Kind} {sp : Space} {s : Shape} {e : EltTy}

/-- A load reads the newest store where that store's rectangle holds the entry. -/
theorem read_hit (v : View sig κ sp s e) (r : Rect s) (w : r.shape.Idx → Elt Ideal e)
    (L : List (View.Piece (Elt Ideal) s e)) (B : LoadRect s) (j : B.shape.Idx) (x : r.shape.Idx) (h : B.idx j = r.emb x) :
    v.readCov (⟨r, w⟩ :: L) B j = w x := by
  rw [View.readCov_eq_canon']
  change View.canon (⟨r, w⟩ :: L) (B.idx j) = w x
  rw [h, View.canon_cons_emb]

/-- A rectangle's entries are the images of its own indices. -/
theorem mem_image {r : Rect s} {y : s.Idx} (h : y ∈ r.set) : ∃ x, r.emb x = y := by
  exact LoadRect.exists_idx_of_mem r.toLoadRect h

/-- A load does not see a store whose rectangle does not hold the entry. -/
theorem read_miss (v : View sig κ sp s e) (r : Rect s) (w : r.shape.Idx → Elt Ideal e)
    (L : List (View.Piece (Elt Ideal) s e)) (B : LoadRect s) (j : B.shape.Idx) (h : B.idx j ∉ r.set) :
    v.readCov (⟨r, w⟩ :: L) B j = v.readCov L B j := by
  rw [View.readCov_eq_canon', View.readCov_eq_canon']
  exact View.canon_cons_of_not_mem _ _ h

end Reads

/-! ## Index arithmetic of the reshapes -/

theorem cast_128x256 (Y : FVec Ideal S1x1x128x256 .bf16) (h) (d : Fin 128) (q : Fin 256) :
    shapeCast S128x256 Y h (ix2 d q) = Y (ix4 0 0 d q) := by pointwise

theorem cast_128x512 (Y : FVec Ideal S1x1x128x512 .bf16) (h) (d : Fin 128) (q : Fin 512) :
    shapeCast S128x512 Y h (ix2 d q) = Y (ix4 0 0 d q) := by pointwise

theorem uncast_128x512 (Y : FVec Ideal S128x512 .bf16) (h) (d : Fin 128) (q : Fin 512) :
    shapeCast S1x1x128x512 Y h (ix4 0 0 d q) = Y (ix2 d q) := by pointwise

theorem cast_512x256 (Y : FVec Ideal S1x512x256 .f32) (h) (d : Fin 512) (q : Fin 256) :
    shapeCast S512x256 Y h (ix2 d q) = Y (ix3 0 d q) := by pointwise

theorem uncast_512x256 (Y : FVec Ideal S512x256 .f32) (h) (d : Fin 512) (q : Fin 256) :
    shapeCast S1x512x256 Y h (ix3 0 d q) = Y (ix2 d q) := by pointwise

theorem cast_256x256 (Y : FVec Ideal S1x256x256 .f32) (h) (d : Fin 256) (q : Fin 256) :
    shapeCast S256x256 Y h (ix2 d q) = Y (ix3 0 d q) := by pointwise

theorem uncast_256x256 (Y : FVec Ideal S256x256 .f32) (h) (d : Fin 256) (q : Fin 256) :
    shapeCast S1x256x256 Y h (ix3 0 d q) = Y (ix2 d q) := by pointwise

theorem uncast_512x512 (Y : FVec Ideal S512x512 .f32) (h) (d : Fin 512) (q : Fin 512) :
    shapeCast S1x512x512 Y h (ix3 0 d q) = Y (ix2 d q) := by pointwise

theorem cast_144x512 (Y : FVec Ideal S1x144x512 .bf16) (h) (d : Fin 144) (q : Fin 512) :
    shapeCast S144x512 Y h (ix2 d q) = Y (ix3 0 d q) := by pointwise

theorem cast_144x256 (Y : FVec Ideal S1x144x256 .bf16) (h) (d : Fin 144) (q : Fin 256) :
    shapeCast S144x256 Y h (ix2 d q) = Y (ix3 0 d q) := by pointwise

theorem uncast_128x512' (Y : FVec Ideal S128x512 .bf16) (h) (d : Fin 128) (q : Fin 512) :
    shapeCast S1x128x512 Y h (ix3 0 d q) = Y (ix2 d q) := by pointwise

theorem uncast_16x512 (Y : FVec Ideal S16x512 .bf16) (h) (d : Fin 16) (q : Fin 512) :
    shapeCast S1x16x512 Y h (ix3 0 d q) = Y (ix2 d q) := by pointwise

theorem cast_512x128 (Y : FVec Ideal S1x512x128 .bf16) (h) (d : Fin 512) (q : Fin 128) :
    shapeCast S512x128 Y h (ix2 d q) = Y (ix3 0 d q) := by pointwise

theorem cast_256x128 (Y : FVec Ideal S1x256x128 .bf16) (h) (d : Fin 256) (q : Fin 128) :
    shapeCast S256x128 Y h (ix2 d q) = Y (ix3 0 d q) := by pointwise

theorem cast_acc (Y : FVec Ideal S1x1x144x512 .f32) (h) (d : Fin 144) (q : Fin 512) :
    shapeCast S144x512 Y h (ix2 d q) = Y (ix4 0 0 d q) := by pointwise

theorem uncast_acc (Y : FVec Ideal S144x256 .f32) (h) (d : Fin 144) (q : Fin 256) :
    shapeCast S1x1x144x256 Y h (ix4 0 0 d q) = Y (ix2 d q) := by pointwise

theorem recast_acc (Y : FVec Ideal S144x256 .f32) (h h') : shapeCast S144x256 (shapeCast S1x1x144x256 Y h) h' = Y :=
  shapeCast_shapeCast _ _ _

theorem recast_max (Y : FVec Ideal S1x256 .f32) (h h') : shapeCast S1x256 (shapeCast S1x1x1x256 Y h) h' = Y :=
  shapeCast_shapeCast _ _ _

/-! ## The blocks of queries, keys and values -/

/-- A block of 512 rows of an array of 4096. -/
abbrev rows512 (x : Vec Ideal S1x4096x128 .bf16) (o : ℕ)
    (inb : ∀ a : Fin S1x4096x128.rank, ![0, o, 0] a + S1x512x128.size a ≤ S1x4096x128.size a) : FVec Ideal S512x128 .bf16 :=
  shapeCast S512x128 (View.ld (Val := Elt Ideal) (e' := .bf16) x
    (Rect.unit (s := S1x4096x128) ![0, o, 0] S1x512x128.size inb)) shapeCasts_S1x512x128_S512x128

/-- A block of 256 rows. -/
abbrev rows256 (x : Vec Ideal S1x4096x128 .bf16) (o : ℕ)
    (inb : ∀ a : Fin S1x4096x128.rank, ![0, o, 0] a + S1x256x128.size a ≤ S1x4096x128.size a) : FVec Ideal S256x128 .bf16 :=
  shapeCast S256x128 (View.ld (Val := Elt Ideal) (e' := .bf16) x
    (Rect.unit (s := S1x4096x128) ![0, o, 0] S1x256x128.size inb)) shapeCasts_S1x256x128_S256x128

/-- An array's rows are the real rows `f`. -/
def Rows (x : Vec Ideal S1x4096x128 .bf16) (f : ℕ → Fin 128 → ℝ) : Prop :=
  ∀ (r : Fin 4096) (d : Fin 128), x (ix3 0 r d) = (f r.val d : EReal)

theorem rows512_apply {x : Vec Ideal S1x4096x128 .bf16} {f : ℕ → Fin 128 → ℝ} (hx : Rows x f) {o : ℕ} {inb}
    (ho : o + 512 ≤ 4096) (r : Fin 512) (d : Fin 128) : rows512 x o inb (ix2 r d) = (f (o + r.val) d : EReal) := by
  unfold rows512
  rw [cast_512x128, ← hx ⟨o + r.val, by omega⟩ d]
  refine View.ld_unit_apply_of _ _ _ _ _ _ (fun a => ?_)
  fin_cases a <;> simp

theorem rows256_apply {x : Vec Ideal S1x4096x128 .bf16} {f : ℕ → Fin 128 → ℝ} (hx : Rows x f) {o : ℕ} {inb}
    (ho : o + 256 ≤ 4096) (r : Fin 256) (d : Fin 128) : rows256 x o inb (ix2 r d) = (f (o + r.val) d : EReal) := by
  unfold rows256
  rw [cast_256x128, ← hx ⟨o + r.val, by omega⟩ d]
  refine View.ld_unit_apply_of _ _ _ _ _ _ (fun a => ?_)
  fin_cases a <;> simp

/-- The scale of the queries: one eighth over the logarithm of two. -/
def qscale : ℝ := 1 / 8 * (Real.log 2)⁻¹

theorem qscale_value : Named.named (F := Ideal) κ "qscale" (φ := .f32) 0x3E38AA3B#32 = (qscale : EReal) :=
  IdealRules.named_const.ideal_named_scalar _ _ _ _ rfl

/-- A block of 512 rows of queries, scaled. -/
abbrev scaled512 (x : Vec Ideal S1x4096x128 .f32) (o : ℕ)
    (inb : ∀ a : Fin S1x4096x128.rank, ![0, o, 0] a + S1x512x128.size a ≤ S1x4096x128.size a) : FVec Ideal S512x128 .bf16 :=
  truncf .bf16 (mulf (shapeCast S512x128 (View.ld (Val := Elt Ideal) (e' := .f32) x
    (Rect.unit (s := S1x4096x128) ![0, o, 0] S1x512x128.size inb)) shapeCasts_S1x512x128_S512x128)
    (broadcast S512x128 (Named.named (F := Ideal) κ "qscale" (φ := .f32) 0x3E38AA3B#32))) bitsLt_bf16_f32

/-- An array's rows, scaled, are the real rows `f`. -/
def ScaledRows (x : Vec Ideal S1x4096x128 .f32) (f : ℕ → Fin 128 → ℝ) : Prop :=
  ∀ (r : Fin 4096) (d : Fin 128), (x (ix3 0 r d) : EReal) * (qscale : EReal) = (f r.val d : EReal)

theorem cast_512x128_f32 (Y : FVec Ideal S1x512x128 .f32) (h) (d : Fin 512) (q : Fin 128) :
    shapeCast S512x128 Y h (ix2 d q) = Y (ix3 0 d q) := by pointwise

theorem scaled512_apply {x : Vec Ideal S1x4096x128 .f32} {f : ℕ → Fin 128 → ℝ} (hx : ScaledRows x f) {o : ℕ} {inb}
    (ho : o + 512 ≤ 4096) (r : Fin 512) (d : Fin 128) : scaled512 x o inb (ix2 r d) = (f (o + r.val) d : EReal) := by
  rw [← hx ⟨o + r.val, by omega⟩ d, ← qscale_value]
  refine congrArg (· * Named.named (F := Ideal) κ "qscale" (φ := .f32) 0x3E38AA3B#32) ?_
  refine (cast_512x128_f32 _ _ _ _).trans ?_
  refine View.ld_unit_apply_of _ _ _ _ _ _ (fun a => ?_)
  fin_cases a <;> simp

/-- The part of a query's row that map `c` uses: the first or the second 64 columns, zero elsewhere. -/
def half (c : ℕ) (q : ℕ → Fin 128 → ℝ) (Q : ℕ) (d : Fin 128) : ℝ := if d.val / 64 = c then q Q d else 0

/-- A transposed block of queries holds the rows from `B` on, as map `c` uses them. -/
def Queries (c : ℕ) (q : ℕ → Fin 128 → ℝ) (B : ℕ) (T : FVec Ideal S128x512 .bf16) : Prop :=
  ∀ (d : Fin 128) (r : Fin 512), T (ix2 d r) = (half c q (B + r.val) d : EReal)

/-- Comparing two small numbers as signed 32-bit integers. -/
theorem sle_small (a b : ℕ) (ha : a < 2 ^ 31) (hb : b < 2 ^ 31) :
    (BitVec.ofNat 32 a).sle (BitVec.ofNat 32 b) = decide (a ≤ b) := by
  rw [BitVec.sle_eq_decide, BitVec.toInt_eq_toNat_of_lt (by simp; omega), BitVec.toInt_eq_toNat_of_lt (by simp; omega)]
  simp only [BitVec.toNat_ofNat]
  congr 1
  rw [Nat.mod_eq_of_lt (by omega), Nat.mod_eq_of_lt (by omega)]
  exact propext Int.ofNat_le

theorem slt_small (a b : ℕ) (ha : a < 2 ^ 31) (hb : b < 2 ^ 31) :
    (BitVec.ofNat 32 a).slt (BitVec.ofNat 32 b) = decide (a < b) := by
  rw [BitVec.slt_eq_decide, BitVec.toInt_eq_toNat_of_lt (by simp; omega), BitVec.toInt_eq_toNat_of_lt (by simp; omega)]
  simp only [BitVec.toNat_ofNat]
  congr 1
  rw [Nat.mod_eq_of_lt (by omega), Nat.mod_eq_of_lt (by omega)]
  exact propext Int.ofNat_lt

/-- The mask's constant is minus infinity. -/
theorem mask_value : Named.named (F := Ideal) κ "mask" (φ := .f32) 4048155338#32 = (⊥ : EReal) :=
  IdealRules.named_const.ideal_named_scalar _ _ _ _ rfl

abbrev queries0 (X : FVec Ideal S512x128 .bf16) : FVec Ideal S128x512 .bf16 :=
  truncf .bf16 (select (cmpi .slt (iota .tc S128x512 32 [0] (by decide)) (broadcast S128x512 64#32))
    (transpose S128x512 [1, 0] (extf .f32 X (by decide)) (by decide)) (broadcast S128x512 (FloatOps.ofBits (F := Ideal) .f32 0#32))) (by decide)

abbrev queries1 (X : FVec Ideal S512x128 .bf16) : FVec Ideal S128x512 .bf16 :=
  truncf .bf16 (select (cmpi .sge (iota .tc S128x512 32 [0] (by decide)) (broadcast S128x512 64#32))
    (transpose S128x512 [1, 0] (extf .f32 X (by decide)) (by decide)) (broadcast S128x512 (FloatOps.ofBits (F := Ideal) .f32 0#32))) (by decide)

theorem queries0_apply (X : FVec Ideal S512x128 .bf16) (d : Fin 128) (r : Fin 512) :
    queries0 X (ix2 d r) = if d.val < 64 then X (ix2 r d) else 0 := by
  pointwise [queries0]
  simp only [IntOp.cmpi, slt_small d.val 64 (by omega) (by omega), Scalar.select]
  by_cases h : d.val < 64 <;> simp [h]

theorem queries1_apply (X : FVec Ideal S512x128 .bf16) (d : Fin 128) (r : Fin 512) :
    queries1 X (ix2 d r) = if 64 ≤ d.val then X (ix2 r d) else 0 := by
  pointwise [queries1]
  simp only [IntOp.cmpi, sle_small 64 d.val (by omega) (by omega), Scalar.select]
  by_cases h : 64 ≤ d.val <;> simp [h]

/-- A block's scores with the keys after the query at minus infinity. -/
abbrev masked512 (S : FVec Ideal S512x256 .f32) : FVec Ideal S512x256 .f32 :=
  select (cmpi .sle (iota .tc S512x256 32 [0] (by decide)) (addi (iota .tc S512x256 32 [1] (by decide)) (broadcast S512x256 256#32)))
    S (broadcast S512x256 (Named.named (F := Ideal) κ "mask" (φ := .f32) 4048155338#32))

abbrev masked256 (S : FVec Ideal S256x256 .f32) : FVec Ideal S256x256 .f32 :=
  select (cmpi .sle (iota .tc S256x256 32 [0] (by decide)) (addi (iota .tc S256x256 32 [1] (by decide)) (broadcast S256x256 0#32)))
    S (broadcast S256x256 (Named.named (F := Ideal) κ "mask" (φ := .f32) 4048155338#32))

theorem masked512_apply (S : FVec Ideal S512x256 .f32) (k : Fin 512) (q : Fin 256) :
    masked512 S (ix2 k q) = if k.val ≤ q.val + 256 then S (ix2 k q) else ⊥ := by
  pointwise [masked512]
  rw [mask_value]
  have e : IntOp.addi (BitVec.ofNat 32 q.val) 256#32 = BitVec.ofNat 32 (q.val + 256) := BitVec.ofNat_add_ofNat ..
  simp only [e, IntOp.cmpi, sle_small k.val (q.val + 256) (by omega) (by omega), Scalar.select]
  by_cases h : k.val ≤ q.val + 256 <;> simp [h]

theorem masked256_apply (S : FVec Ideal S256x256 .f32) (k : Fin 256) (q : Fin 256) :
    masked256 S (ix2 k q) = if k.val ≤ q.val then S (ix2 k q) else ⊥ := by
  pointwise [masked256]
  rw [mask_value]
  have e : IntOp.addi (BitVec.ofNat 32 q.val) 0#32 = BitVec.ofNat 32 (q.val + 0) := BitVec.ofNat_add_ofNat ..
  simp only [e, IntOp.cmpi, sle_small k.val (q.val + 0) (by omega) (by omega), Scalar.select]
  by_cases h : k.val ≤ q.val <;> simp [h]

/-- Products of keys and queries. -/
abbrev dots512x512 (K : FVec Ideal S512x128 .bf16) (T : FVec Ideal S128x512 .bf16) : FVec Ideal S512x512 .f32 :=
  matmul dot_S512x128_S128x512_S512x512_1_0_0_1_n_n none K T (constant S512x512 .f32 0x00000000#32)

abbrev dots512x256 (K : FVec Ideal S512x128 .bf16) (T : FVec Ideal S128x256 .bf16) : FVec Ideal S512x256 .f32 :=
  matmul dot_S512x128_S128x256_S512x256_1_0_0_1_n_n none K T (constant S512x256 .f32 0x00000000#32)

abbrev dots256x256 (K : FVec Ideal S256x128 .bf16) (T : FVec Ideal S128x256 .bf16) : FVec Ideal S256x256 .f32 :=
  matmul dot_S256x128_S128x256_S256x256_1_0_0_1_n_n none K T (constant S256x256 .f32 0x00000000#32)

theorem dots512x512_apply (K T) (k : Fin 512) (q : Fin 512) :
    dots512x512 K T (ix2 k q) = ∑ d : Fin 128, K (ix2 k d) * T (ix2 d q) := by pointwise [dots512x512]

theorem dots512x256_apply (K T) (k : Fin 512) (q : Fin 256) :
    dots512x256 K T (ix2 k q) = ∑ d : Fin 128, K (ix2 k d) * T (ix2 d q) := by pointwise [dots512x256]

theorem dots256x256_apply (K T) (k : Fin 256) (q : Fin 256) :
    dots256x256 K T (ix2 k q) = ∑ d : Fin 128, K (ix2 k d) * T (ix2 d q) := by pointwise [dots256x256]

/-! ## The block's maximum and its part of the sums -/

/-- The columns' maxima of a block of 512 keys. -/
abbrev max512 (S : FVec Ideal S512x256 .f32) : FVec Ideal S1x256 .f32 :=
  shapeCast S1x256 (multiReduction .maximumf [0] S256 S 0xFF800000#32 reduces_S512x256_S256 (.inl rfl) rfl) shapeCasts_S256_S1x256

theorem max512_apply (S : FVec Ideal S512x256 .f32) (q : Fin 256) :
    max512 S (ix2 0 q) = Finset.univ.fold max ⊥ (fun k : Fin 512 => S (ix2 k q)) := by
  pointwise [max512]
  have e : Ideal.ofBits .f32 0xFF800000#32 = ⊥ := by simp [Ideal.ofBits, Ideal.ieee]
  first | rfl | rw [e]

/-- The columns' maxima of a block of 256 keys. -/
abbrev max256 (S : FVec Ideal S256x256 .f32) : FVec Ideal S1x256 .f32 :=
  shapeCast S1x256 (multiReduction .maximumf [0] S256 S 0xFF800000#32 reduces_S256x256_S256 (.inl rfl) rfl) shapeCasts_S256_S1x256

theorem max256_apply (S : FVec Ideal S256x256 .f32) (q : Fin 256) :
    max256 S (ix2 0 q) = Finset.univ.fold max ⊥ (fun k : Fin 256 => S (ix2 k q)) := by
  pointwise [max256]
  have e : Ideal.ofBits .f32 0xFF800000#32 = ⊥ := by simp [Ideal.ofBits, Ideal.ieee]
  first | rfl | rw [e]

/-- The scores of a block relative to a shift, two to their power, times the values and summed over 512 keys. -/
abbrev part512 (V : FVec Ideal S144x512 .bf16) (S : FVec Ideal S512x256 .f32) (M : FVec Ideal S1x256 .f32) :
    FVec Ideal S144x256 .f32 :=
  matmul dot_S144x512_S512x256_S144x256_1_0_0_1_n_n none V
    (truncf .bf16 (exp2 (subf S
      (broadcastTo S512x256 M broadcasts_S1x256_S512x256))) bitsLt_bf16_f32) (constant S144x256 .f32 0x00000000#32)

/-- The same over 256 keys. -/
abbrev part256 (V : FVec Ideal S144x256 .bf16) (S : FVec Ideal S256x256 .f32) (M : FVec Ideal S1x256 .f32) :
    FVec Ideal S144x256 .f32 :=
  matmul dot_S144x256_S256x256_S144x256_1_0_0_1_n_n none V
    (truncf .bf16 (exp2 (subf S
      (broadcastTo S256x256 M broadcasts_S1x256_S256x256))) bitsLt_bf16_f32) (constant S144x256 .f32 0x00000000#32)

theorem part512_apply (V : FVec Ideal S144x512 .bf16) (S : FVec Ideal S512x256 .f32) (M : FVec Ideal S1x256 .f32)
    (d : Fin 144) (q : Fin 256) : part512 V S M (ix2 d q)
      = ∑ k : Fin 512, V (ix2 d k) * Ideal.exp2 (S (ix2 k q) - M (ix2 0 q)) := by
  pointwise [part512]
  rfl

theorem part256_apply (V : FVec Ideal S144x256 .bf16) (S : FVec Ideal S256x256 .f32) (M : FVec Ideal S1x256 .f32)
    (d : Fin 144) (q : Fin 256) : part256 V S M (ix2 d q)
      = ∑ k : Fin 256, V (ix2 d k) * Ideal.exp2 (S (ix2 k q) - M (ix2 0 q)) := by
  pointwise [part256]
  rfl

/-- The sums carried so far, scaled to the new shift, plus the block's part. -/
abbrev carry (M M' : FVec Ideal S1x256 .f32) (A P : FVec Ideal S144x256 .f32) : FVec Ideal S144x256 .f32 :=
  addf (mulf (broadcastTo S144x256 (exp2 (subf M M')) broadcasts_S1x256_S144x256) A) P

theorem carry_apply (M M' : FVec Ideal S1x256 .f32) (A P : FVec Ideal S144x256 .f32) (d : Fin 144) (q : Fin 256) :
    carry M M' A P (ix2 d q) = Ideal.exp2 (M (ix2 0 q) - M' (ix2 0 q)) * A (ix2 d q) + P (ix2 d q) := by
  pointwise [carry]
  rfl

end Cert.Kernel3Ideal.Attn

end
-- ==== Proof.AttnStep.lean ====
/- The attention kernel's steps as facts about real scores: what a block of scores, a block of values, the carried
   maximum and the carried sums hold. -/
module

public import proofs.«01_k».proof.Proof.AttnBlock

@[expose] public section

set_option maxRecDepth 16384

noncomputable section

namespace Cert.Kernel3Ideal.Attn

open Cert.Kernel3Ideal Cert.Kernel3Ideal.Gen Cert.Soft Idealize.ShloMosaic Idealize.ShloMosaic.TcCoe

variable {q k v : ℕ → Fin 128 → ℝ} {x2 : Vec Ideal S1x4096x128 .f32} {x3 x4 : Vec Ideal S1x4096x128 .bf16}

/-! ## Queries -/

theorem queries0_eq (hq : ScaledRows x2 q) {o : ℕ} {inb} (ho : o + 512 ≤ 4096) :
    Queries 0 q o (queries0 (scaled512 x2 o inb)) := by
  intro d r
  rw [queries0_apply, scaled512_apply hq ho]
  unfold half
  by_cases h : d.val < 64
  · rw [if_pos h, if_pos (by omega)]
  · rw [if_neg h, if_neg (by omega)]; rfl

theorem queries1_eq (hq : ScaledRows x2 q) {o : ℕ} {inb} (ho : o + 512 ≤ 4096) :
    Queries 1 q o (queries1 (scaled512 x2 o inb)) := by
  intro d r
  rw [queries1_apply, scaled512_apply hq ho]
  unfold half
  by_cases h : 64 ≤ d.val
  · rw [if_pos h, if_pos (by omega)]
  · rw [if_neg h, if_neg (by omega)]; rfl

theorem queries_cast {c B : ℕ} {T : FVec Ideal S128x512 .bf16} (h : Queries c q B T) (h1 h2) :
    Queries c q B (shapeCast S128x512 (shapeCast S1x1x128x512 T h1) h2) := by
  intro d r
  rw [cast_128x512, uncast_128x512, h]

/-- 256 columns of a stored block of queries. -/
theorem queries_read {c B w : ℕ} {T : FVec Ideal S128x512 .bf16} (h : Queries c q B T) (hw : w + 256 ≤ 512)
    (vw : View sig .tc .vmem S8x2x128x512 .bf16) {a b : ℕ} {L i1 i2 h1 h2} (d : Fin 128) (r : Fin 256) :
    shapeCast S128x256 (vw.readCov (Val := Elt Ideal)
      (⟨Rect.unit (s := S8x2x128x512) ![a, b, 0, 0] S1x1x128x512.size i1, shapeCast S1x1x128x512 T h1⟩ :: L)
      (Rect.unit (s := S8x2x128x512) ![a, b, 0, w] S1x1x128x256.size i2).toLoadRect) h2 (ix2 d r)
      = (half c q (B + w + r.val) d : EReal) := by
  rw [cast_128x256]
  refine (read_hit vw _ _ _ _ _ (ix4 0 0 d ⟨w + r.val, by omega⟩) ?_).trans ?_
  · funext a
    fin_cases a <;> exact Fin.ext (by simp [ix4, Rect.unit, Rect.toLoadRect, LoadRect.idx, Rect.emb])
  · rw [uncast_128x512, h, Nat.add_assoc]

/-! ## Scores -/

/-- The score of query row `Q` and key row `j` under map `c`. -/
def score (c : ℕ) (q k : ℕ → Fin 128 → ℝ) (Q j : ℕ) : ℝ := ∑ d : Fin 128, k j d * half c q Q d

/-- A block of scores: the queries from `Q0` on, the keys from `o` on, later keys masked. -/
def Block (c : ℕ) (q k : ℕ → Fin 128 → ℝ) (Q0 o : ℕ) {n : ℕ} (S : Fin n → Fin 256 → EReal) : Prop :=
  ∀ r : Fin 256, Scores (score c q k (Q0 + r.val)) (Q0 + r.val) o (fun j => S j r)

theorem sum_score {c Q j : ℕ} : ∑ d : Fin 128, ((k j d : ℝ) : EReal) * (half c q Q d : EReal) = (score c q k Q j : EReal) := by
  unfold score
  rw [coe_sum]
  exact Finset.sum_congr rfl fun d _ => (EReal.coe_mul _ _).symm

/-- A block of keys wholly before the queries: nothing is masked. -/
theorem scores_off {c B w o : ℕ} (hk : Rows x3 k) {T : FVec Ideal S128x512 .bf16} (hT : Queries c q B T)
    (vw : View sig .tc .vmem S2x512x512 .f32) {a : ℕ} {L io i1 i2 h1 h2} (ho : o + 512 ≤ 4096) (hB : o + 512 ≤ B)
    (hw : w + 256 ≤ 512) : Block c q k (B + w) o (fun (j : Fin 512) r =>
      shapeCast S512x256 (vw.readCov (Val := Elt Ideal)
      (⟨Rect.unit (s := S2x512x512) ![a, 0, 0] S1x512x512.size i1,
        shapeCast S1x512x512 (dots512x512 (rows512 x3 o io) T) h1⟩ :: L)
      (Rect.unit (s := S2x512x512) ![a, 0, w] S1x512x256.size i2).toLoadRect) h2 (ix2 j r)) := by
  intro r j
  beta_reduce
  rw [cast_512x256, if_pos (by omega)]
  refine (read_hit vw _ _ _ _ _ (ix3 0 j ⟨w + r.val, by omega⟩) ?_).trans ?_
  · funext a
    fin_cases a <;> exact Fin.ext (by simp [ix3, Rect.unit, Rect.toLoadRect, LoadRect.idx, Rect.emb])
  · rw [uncast_512x512, dots512x512_apply, ← sum_score]
    refine Finset.sum_congr rfl fun d _ => ?_
    rw [rows512_apply hk ho, hT, Nat.add_assoc]

/-- The last block of keys for the later 256 queries. -/
theorem scores_diag512 {c B : ℕ} (hk : Rows x3 k) {T : FVec Ideal S128x256 .bf16}
    (hT : ∀ d r, T (ix2 d r) = (half c q (B + 256 + r.val) d : EReal)) {io h1 h2} (ho : B + 512 ≤ 4096) :
    Block c q k (B + 256) B (fun (j : Fin 512) r => shapeCast S512x256 (shapeCast S1x512x256
      (masked512 (dots512x256 (rows512 x3 B io) T)) h1) h2 (ix2 j r)) := by
  intro r j
  beta_reduce
  rw [cast_512x256, uncast_512x256, masked512_apply, dots512x256_apply, ← sum_score]
  refine if_congr (by omega) ?_ rfl
  refine Finset.sum_congr rfl fun d _ => ?_
  rw [rows512_apply hk ho, hT]

/-- The last block of keys for the earlier 256 queries. -/
theorem scores_diag256 {c B : ℕ} (hk : Rows x3 k) {T : FVec Ideal S128x256 .bf16}
    (hT : ∀ d r, T (ix2 d r) = (half c q (B + 0 + r.val) d : EReal)) {io h1 h2} (ho : B + 256 ≤ 4096) :
    Block c q k (B + 0) B (fun (j : Fin 256) r => shapeCast S256x256 (shapeCast S1x256x256
      (masked256 (dots256x256 (rows256 x3 B io) T)) h1) h2 (ix2 j r)) := by
  intro r j
  beta_reduce
  rw [cast_256x256, uncast_256x256, masked256_apply, dots256x256_apply, ← sum_score]
  refine if_congr (by omega) ?_ rfl
  refine Finset.sum_congr rfl fun d _ => ?_
  rw [rows256_apply hk ho, hT]

/-! ## Values -/

/-- A value row with ones below it. -/
def withOne (v : ℕ → Fin 128 → ℝ) (j : ℕ) (d : Fin 144) : ℝ := if h : d.val < 128 then v j ⟨d.val, h⟩ else 1

abbrev transposed (X : FVec Ideal S512x128 .bf16) : FVec Ideal S128x512 .bf16 :=
  truncf .bf16 (transpose S128x512 [1, 0] (extf .f32 X (by decide)) (by decide)) (by decide)

theorem transposed_apply (X : FVec Ideal S512x128 .bf16) (d : Fin 128) (j : Fin 512) :
    transposed X (ix2 d j) = X (ix2 j d) := by pointwise [transposed]

theorem one_word : FloatOps.ofBits (F := Ideal) .bf16 16256#16 = (1 : EReal) := by
  change Ideal.ofBits .bf16 16256#16 = 1
  simp [Ideal.ofBits, Ideal.ieee, -EReal.coe_mul]; norm_num

/-- A block of values, as loaded: the values' rows transposed, then ones. -/
def Values (v : ℕ → Fin 128 → ℝ) (o : ℕ) {n : ℕ} (V : Fin 144 → Fin n → EReal) : Prop :=
  ∀ (j : Fin n) (d : Fin 144), V d j = (withOne v (o + j.val) d : EReal)

theorem values512 (hv : Rows x4 v) (vw : View sig .tc .vmem S8x144x512 .bf16) {o a : ℕ} {L io i1 i2 i3 h1 h2 h3}
    (ho : o + 512 ≤ 4096) : Values v o (fun d (j : Fin 512) => shapeCast S144x512 (vw.readCov (Val := Elt Ideal)
      (⟨Rect.unit (s := S8x144x512) ![a, 128, 0] S1x16x512.size i1,
          shapeCast S1x16x512 (broadcast S16x512 (FloatOps.ofBits (F := Ideal) .bf16 16256#16)) h1⟩
        :: ⟨Rect.unit (s := S8x144x512) ![a, 0, 0] S1x128x512.size i2,
          shapeCast S1x128x512 (transposed (rows512 x4 o io)) h2⟩ :: L)
      (Rect.unit (s := S8x144x512) ![a, 0, 0] S1x144x512.size i3).toLoadRect) h3 (ix2 d j)) := by
  intro j d
  beta_reduce
  rw [cast_144x512]
  unfold withOne
  by_cases h : d.val < 128
  · rw [dif_pos h]
    refine (read_miss vw _ _ _ _ _ ?_).trans ?_
    · intro hm
      obtain ⟨y, hy⟩ := mem_image hm
      have := congrArg (fun z => (z 1).val) hy
      simp [ix3, Rect.unit, Rect.toLoadRect, LoadRect.idx, Rect.emb] at this
      omega
    · refine (read_hit vw _ _ _ _ _ (ix3 0 ⟨d.val, h⟩ ⟨j.val, by omega⟩) ?_).trans ?_
      · funext a
        fin_cases a <;> exact Fin.ext (by simp [ix3, Rect.unit, Rect.toLoadRect, LoadRect.idx, Rect.emb])
      · rw [uncast_128x512', transposed_apply, rows512_apply hv ho]
  · rw [dif_neg h]
    refine (read_hit vw _ _ _ _ _ (ix3 0 ⟨d.val - 128, by omega⟩ ⟨j.val, by omega⟩) ?_).trans ?_
    · funext a
      fin_cases a <;> exact Fin.ext (by simp [ix3, Rect.unit, Rect.toLoadRect, LoadRect.idx, Rect.emb]; try omega)
    · rw [uncast_16x512]; exact one_word

theorem values256 (hv : Rows x4 v) (vw : View sig .tc .vmem S8x144x512 .bf16) {o a : ℕ} {L io i1 i2 i3 h1 h2 h3}
    (ho : o + 512 ≤ 4096) : Values v o (fun d (j : Fin 256) => shapeCast S144x256 (vw.readCov (Val := Elt Ideal)
      (⟨Rect.unit (s := S8x144x512) ![a, 128, 0] S1x16x512.size i1,
          shapeCast S1x16x512 (broadcast S16x512 (FloatOps.ofBits (F := Ideal) .bf16 16256#16)) h1⟩
        :: ⟨Rect.unit (s := S8x144x512) ![a, 0, 0] S1x128x512.size i2,
          shapeCast S1x128x512 (transposed (rows512 x4 o io)) h2⟩ :: L)
      (Rect.unit (s := S8x144x512) ![a, 0, 0] S1x144x256.size i3).toLoadRect) h3 (ix2 d j)) := by
  intro j d
  beta_reduce
  rw [cast_144x256]
  unfold withOne
  by_cases h : d.val < 128
  · rw [dif_pos h]
    refine (read_miss vw _ _ _ _ _ ?_).trans ?_
    · intro hm
      obtain ⟨y, hy⟩ := mem_image hm
      have := congrArg (fun z => (z 1).val) hy
      simp [ix3, Rect.unit, Rect.toLoadRect, LoadRect.idx, Rect.emb] at this
      omega
    · refine (read_hit vw _ _ _ _ _ (ix3 0 ⟨d.val, h⟩ ⟨j.val, by omega⟩) ?_).trans ?_
      · funext a
        fin_cases a <;> exact Fin.ext (by simp [ix3, Rect.unit, Rect.toLoadRect, LoadRect.idx, Rect.emb])
      · rw [uncast_128x512', transposed_apply, rows512_apply hv ho]
  · rw [dif_neg h]
    refine (read_hit vw _ _ _ _ _ (ix3 0 ⟨d.val - 128, by omega⟩ ⟨j.val, by omega⟩) ?_).trans ?_
    · funext a
      fin_cases a <;> exact Fin.ext (by simp [ix3, Rect.unit, Rect.toLoadRect, LoadRect.idx, Rect.emb]; try omega)
    · rw [uncast_16x512]; exact one_word

/-! ## What is carried from block to block -/

/-- After the first `n` keys, for the 256 queries from `Q0` on: `M` is a shift, `A` the shifted sums. -/
def Strip (s : ℕ → ℕ → ℝ) (v : ℕ → Fin 128 → ℝ) (Q0 n : ℕ) (M : FVec Ideal S1x256 .f32) (A : FVec Ideal S144x256 .f32) : Prop :=
  ∀ r : Fin 256, Acc (s (Q0 + r.val)) (withOne v) (Q0 + r.val) n (M (ix2 0 r)) (fun d => A (ix2 d r))

/-- The first block, of 512 keys. -/
theorem first512 {c Q0 : ℕ} {V : FVec Ideal S144x512 .bf16} {S : FVec Ideal S512x256 .f32}
    (hV : Values v 0 (fun d (j : Fin 512) => V (ix2 d j)))
    (hS : Block c q k Q0 0 (fun (j : Fin 512) r => S (ix2 j r))) :
    Strip (score c q k) v Q0 512 (max512 S) (part512 V S (max512 S)) := by
  intro r
  have h := Acc.first (hS r) (by omega) (w := fun j d => V (ix2 d j)) hV
  simp only [part512_apply, max512_apply]
  exact h

/-- A later block, of 512 keys. -/
theorem next512 {c Q0 o : ℕ} {V : FVec Ideal S144x512 .bf16} {S : FVec Ideal S512x256 .f32}
    {M : FVec Ideal S1x256 .f32} {A : FVec Ideal S144x256 .f32} (ho : o ≤ Q0)
    (hV : Values v o (fun d (j : Fin 512) => V (ix2 d j)))
    (hS : Block c q k Q0 o (fun (j : Fin 512) r => S (ix2 j r)))
    (hA : Strip (score c q k) v Q0 o M A) {h1 h2 h3 h4} :
    Strip (score c q k) v Q0 (o + 512)
      (maximumf (shapeCast S1x256 (shapeCast S1x1x1x256 M h1) h2) (max512 S))
      (carry (shapeCast S1x256 (shapeCast S1x1x1x256 M h1) h2)
        (maximumf (shapeCast S1x256 (shapeCast S1x1x1x256 M h1) h2) (max512 S))
        (shapeCast S144x256 (shapeCast S1x1x144x256 A h3) h4)
        (part512 V S (maximumf (shapeCast S1x256 (shapeCast S1x1x1x256 M h1) h2) (max512 S)))) := by
  intro r
  have h := (hA r).next (hS r) (by omega) (by omega) (w := fun j d => V (ix2 d j)) hV
  have e : maximumf M (max512 S) (ix2 0 r) = max (M (ix2 0 r)) (max512 S (ix2 0 r)) := rfl
  rw [recast_max, recast_acc]
  simp only [carry_apply, part512_apply, e, max512_apply]
  exact h

/-- The first block, of 256 keys. -/
theorem first256 {c Q0 : ℕ} {V : FVec Ideal S144x256 .bf16} {S : FVec Ideal S256x256 .f32}
    (hV : Values v 0 (fun d (j : Fin 256) => V (ix2 d j)))
    (hS : Block c q k Q0 0 (fun (j : Fin 256) r => S (ix2 j r))) :
    Strip (score c q k) v Q0 256 (max256 S) (part256 V S (max256 S)) := by
  intro r
  have h := Acc.first (hS r) (by omega) (w := fun j d => V (ix2 d j)) hV
  simp only [part256_apply, max256_apply]
  exact h

/-- A later block, of 256 keys. -/
theorem next256 {c Q0 o : ℕ} {V : FVec Ideal S144x256 .bf16} {S : FVec Ideal S256x256 .f32}
    {M : FVec Ideal S1x256 .f32} {A : FVec Ideal S144x256 .f32} (ho : o ≤ Q0)
    (hV : Values v o (fun d (j : Fin 256) => V (ix2 d j)))
    (hS : Block c q k Q0 o (fun (j : Fin 256) r => S (ix2 j r)))
    (hA : Strip (score c q k) v Q0 o M A) {h1 h2 h3 h4} :
    Strip (score c q k) v Q0 (o + 256)
      (maximumf (shapeCast S1x256 (shapeCast S1x1x1x256 M h1) h2) (max256 S))
      (carry (shapeCast S1x256 (shapeCast S1x1x1x256 M h1) h2)
        (maximumf (shapeCast S1x256 (shapeCast S1x1x1x256 M h1) h2) (max256 S))
        (shapeCast S144x256 (shapeCast S1x1x144x256 A h3) h4)
        (part256 V S (maximumf (shapeCast S1x256 (shapeCast S1x1x1x256 M h1) h2) (max256 S)))) := by
  intro r
  have h := (hA r).next (hS r) (by omega) (by omega) (w := fun j d => V (ix2 d j)) hV
  have e : maximumf M (max256 S) (ix2 0 r) = max (M (ix2 0 r)) (max256 S (ix2 0 r)) := rfl
  rw [recast_max, recast_acc]
  simp only [carry_apply, part256_apply, e, max256_apply]
  exact h

/-- Sums for 512 queries from `B` on, over all the keys each may see. -/
def Columns (s : ℕ → ℕ → ℝ) (v : ℕ → Fin 128 → ℝ) (B : ℕ) (X : FVec Ideal S144x512 .f32) : Prop :=
  ∀ r : Fin 512, ∃ n M, B + r.val < n ∧ Acc (s (B + r.val)) (withOne v) (B + r.val) n M (fun d => X (ix2 d r))

/-- The two strips of a block of queries, read back together. -/
theorem join {s : ℕ → ℕ → ℝ} {B n0 n1 : ℕ} {M0 M1 : FVec Ideal S1x256 .f32} {A0 A1 : FVec Ideal S144x256 .f32}
    (H1 : Strip s v (B + 256) n1 M1 A1) (H0 : Strip s v (B + 0) n0 M0 A0) (hn1 : B + 512 ≤ n1) (hn0 : B + 256 ≤ n0)
    (vw : View sig .tc .vmem S2x2x144x512 .f32) {a b : ℕ} {L i1 i2 i3 h1 h2 h3} :
    Columns s v B (shapeCast S144x512 (vw.readCov (Val := Elt Ideal)
      (⟨Rect.unit (s := S2x2x144x512) ![a, b, 0, 256] S1x1x144x256.size i1, shapeCast S1x1x144x256 A1 h1⟩
        :: ⟨Rect.unit (s := S2x2x144x512) ![a, b, 0, 0] S1x1x144x256.size i2, shapeCast S1x1x144x256 A0 h2⟩ :: L)
      (Rect.unit (s := S2x2x144x512) ![a, b, 0, 0] S1x1x144x512.size i3).toLoadRect) h3) := by
  intro r
  by_cases h : r.val < 256
  · refine ⟨n0, M0 (ix2 0 ⟨r.val, h⟩), by omega, ?_⟩
    have g := H0 ⟨r.val, h⟩
    rw [Nat.add_zero] at g
    refine (congrArg (Soft.Acc _ _ _ _ _) (funext fun d => ?_)).mp g
    · symm
      rw [cast_acc]
      refine (read_miss vw _ _ _ _ _ ?_).trans ?_
      · intro hm
        obtain ⟨y, hy⟩ := mem_image hm
        have := congrArg (fun z => (z 3).val) hy
        simp [ix4, Rect.unit, Rect.toLoadRect, LoadRect.idx, Rect.emb] at this
        omega
      · refine (read_hit vw _ _ _ _ _ (ix4 0 0 d ⟨r.val, h⟩) ?_).trans ?_
        · funext a
          fin_cases a <;> exact Fin.ext (by simp [ix4, Rect.unit, Rect.toLoadRect, LoadRect.idx, Rect.emb])
        · rw [uncast_acc]
  · refine ⟨n1, M1 (ix2 0 ⟨r.val - 256, by omega⟩), by omega, ?_⟩
    have g := H1 ⟨r.val - 256, by omega⟩
    rw [show B + 256 + (⟨r.val - 256, by omega⟩ : Fin 256).val = B + r.val by simp; omega] at g
    refine (congrArg (Soft.Acc _ _ _ _ _) (funext fun d => ?_)).mp g
    · symm
      rw [cast_acc]
      refine (read_hit vw _ _ _ _ _ (ix4 0 0 d ⟨r.val - 256, by omega⟩) ?_).trans ?_
      · funext a
        fin_cases a <;> exact Fin.ext (by simp [ix4, Rect.unit, Rect.toLoadRect, LoadRect.idx, Rect.emb]; try omega)
      · rw [uncast_acc]

end Cert.Kernel3Ideal.Attn

end
-- ==== Proof.AttnHead.lean ====
/- How the attention kernel ends a block of queries: the two maps' means, their difference, its normalisation. -/
module

public import proofs.«01_k».proof.Proof.AttnStep

@[expose] public section

set_option maxRecDepth 16384

noncomputable section

namespace Cert.Kernel3Ideal.Attn

open Cert.Kernel3Ideal Cert.Kernel3Ideal.Gen Cert.Soft Idealize.ShloMosaic Idealize.ShloMosaic.TcCoe

variable {q k v : ℕ → Fin 128 → ℝ}

/-- The attention of map `c`: the softmax-weighted mean of the values' coordinate `d`, scores in base two. -/
def attend (c : ℕ) (q k v : ℕ → Fin 128 → ℝ) (Q : ℕ) (d : Fin 128) : ℝ :=
  mean (fun j => score c q k Q j * Real.log 2) (fun j => v j d) Q

/-- The difference of the two maps' attention. -/
def diff (lam : ℝ) (q k v : ℕ → Fin 128 → ℝ) (Q : ℕ) (d : Fin 128) : ℝ :=
  attend 0 q k v Q d - lam * attend 1 q k v Q d

/-- The difference, divided by its root mean square, times the gain and a constant. -/
def head (lam : ℝ) (q k v : ℕ → Fin 128 → ℝ) (g : Fin 128 → EReal) (Q : ℕ) (d : Fin 128) : EReal :=
  ((diff lam q k v Q d : EReal) * Ideal.rsqrt (Ideal.div
    (∑ e : Fin 128, (diff lam q k v Q e : EReal) * (diff lam q k v Q e : EReal)) (Ideal.ofBits .f32 0x43000000#32)
      + Ideal.ofBits .f32 0x3727C5AC#32)) * (g d * Ideal.ofBits .f32 0x3F4CCCCD#32)

/-- A map's sums divided by the carried sum of ones. -/
abbrev quotients (X : FVec Ideal S144x512 .f32) : FVec Ideal S128x512 .f32 :=
  mulf (extractStridedSlice S128x512 ![0, 0] X slices_S144x512_o0_0_S128x512)
    (broadcastTo S128x512 (divf (broadcast S1x512 (FloatOps.ofBits (F := Ideal) .f32 0x3F800000#32))
      (extractStridedSlice S1x512 ![128, 0] X slices_S144x512_o128_0_S1x512)) broadcasts_S1x512_S128x512)

theorem quotients_apply (X : FVec Ideal S144x512 .f32) (d : Fin 128) (r : Fin 512) :
    quotients X (ix2 d r) = X (ix2 ⟨d.val, by omega⟩ r)
      * Ideal.div (Ideal.ofBits .f32 0x3F800000#32) (X (ix2 128 r)) := by
  pointwise [quotients]

theorem word_one : Ideal.ofBits .f32 0x3F800000#32 = 1 := by
  simp [Ideal.ofBits, Ideal.ieee, -EReal.coe_mul]; norm_num

theorem attended {c B : ℕ} {X : FVec Ideal S144x512 .f32} (h : Columns (score c q k) v B X) (d : Fin 128) (r : Fin 512) :
    quotients X (ix2 d r) = (attend c q k v (B + r.val) d : EReal) := by
  obtain ⟨n, M, hn, hA⟩ := h r
  rw [quotients_apply, word_one]
  refine (hA.quot hn 128 ⟨d.val, by omega⟩ fun j => by simp [withOne]).trans ?_
  unfold attend
  simp only [withOne, d.isLt, dif_pos]

/-- The last payload: the difference of two maps, normalised over the columns and transposed. -/
abbrev finish (D : FVec Ideal S128x512 .f32) (g : FVec Ideal S1x128 .f32) : FVec Ideal S1x512x128 .bf16 :=
  shapeCast S1x512x128 (truncf .bf16 (mulf (transpose S512x128 [1, 0] (mulf D (broadcastTo S128x512
      (rsqrt (addf (divf (shapeCast S1x512 (multiReduction .add [0] S512 (mulf D D) 0x00000000#32
        reduces_S128x512_S512 (.inl rfl) rfl) shapeCasts_S512_S1x512)
        (broadcast S1x512 (FloatOps.ofBits (F := Ideal) .f32 0x43000000#32)))
        (broadcast S1x512 (FloatOps.ofBits (F := Ideal) .f32 0x3727C5AC#32)))) broadcasts_S1x512_S128x512)) (by decide))
      (broadcastTo S512x128 (mulf g (broadcast S1x128 (FloatOps.ofBits (F := Ideal) .f32 0x3F4CCCCD#32)))
        broadcasts_S1x128_S512x128)) bitsLt_bf16_f32) shapeCasts_S512x128_S1x512x128

theorem finish_apply (D : FVec Ideal S128x512 .f32) (g : FVec Ideal S1x128 .f32) (r : Fin 512) (d : Fin 128) :
    finish D g (ix3 0 r d) = (D (ix2 d r) * Ideal.rsqrt (Ideal.div (∑ e : Fin 128, D (ix2 e r) * D (ix2 e r))
      (Ideal.ofBits .f32 0x43000000#32) + Ideal.ofBits .f32 0x3727C5AC#32))
      * (g (ix2 0 d) * Ideal.ofBits .f32 0x3F4CCCCD#32) := by
  pointwise [finish]

abbrev differ (L : FVec Ideal S1x1 .f32) (O1 O2 : FVec Ideal S128x512 .f32) : FVec Ideal S128x512 .f32 :=
  subf O1 (mulf (broadcastTo S128x512 L broadcasts_S1x1_S128x512) O2)

theorem differ_apply (L : FVec Ideal S1x1 .f32) (O1 O2 : FVec Ideal S128x512 .f32) (d : Fin 128) (r : Fin 512) :
    differ L O1 O2 (ix2 d r) = O1 (ix2 d r) - L (ix2 0 0) * O2 (ix2 d r) := by
  pointwise [differ]

/-- What the kernel stores for a block of queries. -/
theorem finish_eq {lam : ℝ} {B : ℕ} {x0 : Vec Ideal S8x128 .f32} {x1 : Vec Ideal S1x128 .f32}
    (hlam : x0 (ix2 0 0) = (lam : EReal)) {X1 X2 : FVec Ideal S144x512 .f32}
    (H1 : Columns (score 0 q k) v B X1) (H2 : Columns (score 1 q k) v B X2) {i0 i1 h1} (G : Vec Ideal S1x4096x128 .bf16)
    {i2} (hG : ∀ (r : Fin 4096) d, G (ix3 0 r d) = head lam q k v (fun e => x1 (ix2 0 e)) r.val d)
    (x : (Rect.unit (s := S1x4096x128) ![0, B, 0] S1x512x128.size i2).shape.Idx) (hB : B + 512 ≤ 4096) :
    finish (differ (View.ld (Val := Elt Ideal) (e' := .f32) x0 (Rect.unit (s := S8x128) ![0, 0] S1x1.size i0))
        (quotients X1) (quotients X2))
      (shapeCast S1x128 (View.ld (Val := Elt Ideal) (e' := .f32) x1 (Rect.unit (s := S1x128) ![0, 0] S1x128.size i1)) h1) x
      = G ((Rect.unit (s := S1x4096x128) ![0, B, 0] S1x512x128.size i2).emb x) := by
  obtain ⟨r, d, rfl⟩ : ∃ (r : Fin 512) (d : Fin 128), x = ix3 0 r d := by
    refine ⟨x 1, x 2, ?_⟩
    funext a
    fin_cases a
    · exact Subsingleton.elim (α := Fin 1) _ _
    · rfl
    · rfl
  have hE : (Rect.unit (s := S1x4096x128) ![0, B, 0] S1x512x128.size i2).emb (ix3 0 r d)
      = ix3 0 ⟨B + r.val, by omega⟩ d := by
    funext a
    fin_cases a <;> exact Fin.ext (by simp [ix3, Rect.unit, Rect.emb])
  refine Eq.trans ?_ ((congrArg G hE).trans (hG _ _)).symm
  have hL : View.ld (Val := Elt Ideal) (e' := .f32) x0 (Rect.unit (s := S8x128) ![0, 0] S1x1.size i0) (ix2 0 0) = (lam : EReal) := by
    rw [← hlam]
    refine View.ld_unit_apply_of _ _ _ _ _ _ (fun a => ?_)
    fin_cases a <;> simp
  have hg : ∀ d : Fin 128, shapeCast S1x128 (View.ld (Val := Elt Ideal) (e' := .f32) x1
      (Rect.unit (s := S1x128) ![0, 0] S1x128.size i1)) h1 (ix2 0 d) = x1 (ix2 0 d) := by
    intro d
    refine (congrFun (shapeCast_self (s := S1x128) _ _) _).trans ?_
    refine View.ld_unit_apply_of _ _ _ _ _ _ (fun a => ?_)
    fin_cases a <;> simp
  have hD : ∀ d r, differ (View.ld (Val := Elt Ideal) (e' := .f32) x0 (Rect.unit (s := S8x128) ![0, 0] S1x1.size i0))
        (quotients X1) (quotients X2) (ix2 d r) = (diff lam q k v (B + r.val) d : EReal) := by
    intro d r
    rw [differ_apply, attended H1, attended H2, hL, ← EReal.coe_mul, ← EReal.coe_sub]
    rfl
  refine (finish_apply _ _ _ _).trans ?_
  simp only [hD, hg]
  rfl

end Cert.Kernel3Ideal.Attn

end
-- ==== Proof.AttnRun.lean ====
/- What the attention kernel writes for a batch row and a head. -/
module

public import proofs.«01_k».proof.Proof.AttnHead
public import proofs.«01_k».proof.Proof.Gen.Kernel3Ideal.Value

@[expose] public section

set_option maxRecDepth 65536

noncomputable section

namespace Cert.Kernel3Ideal.Attn

open Cert.Kernel3Ideal Cert.Kernel3Ideal.Gen Cert.Soft Idealize.ShloMosaic Idealize.ShloMosaic.TcCoe Idealize.SL.Sem
open Idealize.ShloMosaic.Pipeline (Dat)

/-- Eight stores that are blocks of one array, and that cover an entry, leave that array's value there. -/
theorem canon_eight {s : Shape} {e : EltTy} (G : s.Idx → Elt Ideal e) (r7 r6 r5 r4 r3 r2 r1 r0 : Rect s)
    (p7 : r7.shape.Idx → Elt Ideal e)
    (p6 : r6.shape.Idx → Elt Ideal e)
    (p5 : r5.shape.Idx → Elt Ideal e)
    (p4 : r4.shape.Idx → Elt Ideal e)
    (p3 : r3.shape.Idx → Elt Ideal e)
    (p2 : r2.shape.Idx → Elt Ideal e)
    (p1 : r1.shape.Idx → Elt Ideal e)
    (p0 : r0.shape.Idx → Elt Ideal e)
    (h7 : ∀ x, p7 x = G (r7.emb x))
    (h6 : ∀ x, p6 x = G (r6.emb x))
    (h5 : ∀ x, p5 x = G (r5.emb x))
    (h4 : ∀ x, p4 x = G (r4.emb x))
    (h3 : ∀ x, p3 x = G (r3.emb x))
    (h2 : ∀ x, p2 x = G (r2.emb x))
    (h1 : ∀ x, p1 x = G (r1.emb x))
    (h0 : ∀ x, p0 x = G (r0.emb x)) (y : s.Idx)
    (hy : y ∈ r7.set ∨ y ∈ r6.set ∨ y ∈ r5.set ∨ y ∈ r4.set ∨ y ∈ r3.set ∨ y ∈ r2.set ∨ y ∈ r1.set ∨ y ∈ r0.set) :
    View.canon (Val := Elt Ideal) [⟨r7, p7⟩, ⟨r6, p6⟩, ⟨r5, p5⟩, ⟨r4, p4⟩, ⟨r3, p3⟩, ⟨r2, p2⟩, ⟨r1, p1⟩, ⟨r0, p0⟩] y = G y := by
  refine View.canon_apply_of_pieces G _ (View.PiecesOf.mem (G := G)
    (L := [⟨r7, p7⟩, ⟨r6, p6⟩, ⟨r5, p5⟩, ⟨r4, p4⟩, ⟨r3, p3⟩, ⟨r2, p2⟩, ⟨r1, p1⟩, ⟨r0, p0⟩])
    ⟨h7, h6, h5, h4, h3, h2, h1, h0, trivial⟩) y ?_
  rcases hy with h | h | h | h | h | h | h | h
  · exact ⟨⟨r7, p7⟩, by simp, h⟩
  · exact ⟨⟨r6, p6⟩, by simp, h⟩
  · exact ⟨⟨r5, p5⟩, by simp, h⟩
  · exact ⟨⟨r4, p4⟩, by simp, h⟩
  · exact ⟨⟨r3, p3⟩, by simp, h⟩
  · exact ⟨⟨r2, p2⟩, by simp, h⟩
  · exact ⟨⟨r1, p1⟩, by simp, h⟩
  · exact ⟨⟨r0, p0⟩, by simp, h⟩

/-- Eight blocks of 512 rows cover 4096 rows. -/
theorem rows_cover (y : S1x4096x128.Idx) {i7 i6 i5 i4 i3 i2 i1 i0} :
    y ∈ (Rect.unit (s := S1x4096x128) ![0, 3584, 0] S1x512x128.size i7).set
      ∨ y ∈ (Rect.unit (s := S1x4096x128) ![0, 3072, 0] S1x512x128.size i6).set
      ∨ y ∈ (Rect.unit (s := S1x4096x128) ![0, 2560, 0] S1x512x128.size i5).set
      ∨ y ∈ (Rect.unit (s := S1x4096x128) ![0, 2048, 0] S1x512x128.size i4).set
      ∨ y ∈ (Rect.unit (s := S1x4096x128) ![0, 1536, 0] S1x512x128.size i3).set
      ∨ y ∈ (Rect.unit (s := S1x4096x128) ![0, 1024, 0] S1x512x128.size i2).set
      ∨ y ∈ (Rect.unit (s := S1x4096x128) ![0, 512, 0] S1x512x128.size i1).set
      ∨ y ∈ (Rect.unit (s := S1x4096x128) ![0, 0, 0] S1x512x128.size i0).set := by
  have h1 : (y 1).val < 4096 := (y 1).isLt
  have key : ∀ (o : ℕ) (i), o ≤ (y 1).val → (y 1).val < o + 512 →
      y ∈ (Rect.unit (s := S1x4096x128) ![0, o, 0] S1x512x128.size i).set := by
    intro o i ha hb
    have e : y = (Rect.unit (s := S1x4096x128) ![0, o, 0] S1x512x128.size i).emb
        (ix3 (y 0) ⟨(y 1).val - o, by omega⟩ (y 2)) := by
      funext a
      fin_cases a <;> exact Fin.ext (by simp [ix3, Rect.unit, Rect.emb]; try omega)
    rw [e]
    exact LoadRect.idx_mem _ _
  by_cases a7 : 3584 ≤ (y 1).val
  · exact .inl (key _ _ a7 (by omega))
  by_cases a6 : 3072 ≤ (y 1).val
  · exact .inr (.inl (key _ _ a6 (by omega)))
  by_cases a5 : 2560 ≤ (y 1).val
  · exact .inr (.inr (.inl (key _ _ a5 (by omega))))
  by_cases a4 : 2048 ≤ (y 1).val
  · exact .inr (.inr (.inr (.inl (key _ _ a4 (by omega)))))
  by_cases a3 : 1536 ≤ (y 1).val
  · exact .inr (.inr (.inr (.inr (.inl (key _ _ a3 (by omega))))))
  by_cases a2 : 1024 ≤ (y 1).val
  · exact .inr (.inr (.inr (.inr (.inr (.inl (key _ _ a2 (by omega)))))))
  by_cases a1 : 512 ≤ (y 1).val
  · exact .inr (.inr (.inr (.inr (.inr (.inr (.inl (key _ _ a1 (by omega))))))))
  · exact .inr (.inr (.inr (.inr (.inr (.inr (.inr (key _ _ (by omega) (by omega))))))))

set_option maxHeartbeats 4000000 in
/-- The kernel's output block: every row is the head's attention of that query. -/
theorem block (c : Dev nD) (i : grid0.Coords) (arg2 : Memref sig .tc .vmem S8x128 .f32) (harg2 : arg2.IsWhole) (arg3 : Memref sig .tc .vmem S1x128 .f32) (harg3 : arg3.IsWhole) (arg4 : Memref sig .tc .vmem S1x4096x128 .f32) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S8x144x512 .bf16) (harg8 : arg8.IsWhole) (arg9 : Memref sig .tc .vmem S8x2x128x512 .bf16) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x2x1x512 .f32) (harg12 : arg12.IsWhole) (arg13 : Memref sig .tc .vmem S2x2x144x512 .f32) (harg13 : arg13.IsWhole)
    {x0 : Vec Ideal S8x128 .f32} {x1 : Vec Ideal S1x128 .f32} {x2 : Vec Ideal S1x4096x128 .f32} {x3 x4 : Vec Ideal S1x4096x128 .bf16}
    {lam : ℝ} {q k v : ℕ → Fin 128 → ℝ} (hlam : x0 (ix2 0 0) = (lam : EReal)) (hq : ScaledRows x2 q) (hk : Rows x3 k)
    (hv : Rows x4 v) (G : Vec Ideal S1x4096x128 .bf16)
    (hG : ∀ (r : Fin 4096) d, G (ix3 0 r d) = head lam q k v (fun e => x1 (ix2 0 e)) r.val d) (y : S1x4096x128.Idx) :
    out0_A_5 (F := Ideal) c i arg2 harg2 arg3 harg3 arg4 harg4 arg5 harg5 arg6 harg6 arg7 harg7 arg8 harg8 arg9 harg9 arg10 harg10 arg11 harg11 arg12 harg12 arg13 harg13 x0 x1 x2 x3 x4 y = G y := by
  frame_open
  simp (disch := decide) only [↓ View.readCov_skip, ↓ View.readCov_cons_toLoadRect, View.read_writes_junk_eq_canon,
    View.readAt_eq_ld, Memref.IsWhole.read_unread,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, k0_pay759, k0_pay760, k0_pay761, k0_pay762, k0_pay763, k0_pay764, k0_pay765, k0_pay766, k0_pay767, k0_pay768, k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, k0_pay789, k0_pay790, k0_pay791, k0_pay792, k0_pay793, k0_pay794, k0_pay795, k0_pay796, k0_pay797, k0_pay798, k0_pay799, k0_pay800, k0_pay801, k0_pay802, k0_pay803, k0_pay804, k0_pay805, k0_pay806, k0_pay807, k0_pay808, k0_pay809, k0_pay810, k0_pay811, k0_pay812, k0_pay813, k0_pay814, k0_pay815, k0_pay816, k0_pay817, k0_pay818, k0_pay819, k0_pay820, k0_pay821, k0_pay822, k0_pay823, k0_pay824, k0_pay825, k0_pay826, k0_pay827, k0_pay828, k0_pay829, k0_pay830, k0_pay831, k0_pay832, k0_pay833, k0_pay834, k0_pay835, k0_pay836, k0_pay837, k0_pay838, k0_pay839, k0_pay840, k0_pay841, k0_pay842, k0_pay843, k0_pay844, k0_pay845, k0_pay846, k0_pay847, k0_pay848, k0_pay849, k0_pay850, k0_pay851, k0_pay852, k0_pay853, k0_pay854, k0_pay855, k0_pay856, k0_pay857, k0_pay858, k0_pay859, k0_pay860, k0_pay861, k0_pay862, k0_pay863, k0_pay864, k0_pay865, k0_pay866, k0_pay867, k0_pay868, k0_pay869, k0_pay870, k0_pay871, k0_pay872, k0_pay873, k0_pay874, k0_pay875, k0_pay876, k0_pay877, k0_pay878, k0_pay879, k0_pay880, k0_pay881, k0_pay882, k0_pay883, k0_pay884, k0_pay885, k0_pay886, k0_pay887, k0_pay888, k0_pay889, k0_pay890, k0_pay891, k0_pay892, k0_pay893, k0_pay894, k0_pay895, k0_pay896]
  refine canon_eight G _ _ _ _ _ _ _ _ _ _ _ _ _ _ _ _ ?h7 ?h6 ?h5 ?h4 ?h3 ?h2 ?h1 ?h0 y ?hy
  case h7 =>
    intro x
    refine finish_eq hlam ?c1 ?c2 G hG x (by norm_num)
    case c1 =>
      refine join (M0 := ?m700) (M1 := ?m701) (n1 := 4096) (n0 := 3840) ?s1 ?s0 (by norm_num) (by norm_num) _
      case s1 =>
        refine next512 (o := 3584) (Q0 := 3584 + 256) (by norm_num) ?v ?s ?_
        case v => exact values512 hv _ (by norm_num)
        case s =>
          refine scores_diag512 hk ?_ (by norm_num)
          intro d r
          refine queries_read ?_ (by norm_num) _ _ _
          exact queries0_eq hq (by norm_num)
        refine next512 (o := 3072) (Q0 := 3584 + 256) (by norm_num) ?v ?s ?_
        case v => exact values512 hv _ (by norm_num)
        case s =>
          refine scores_off (B := 3584) (w := 256) hk ?_ _ (by norm_num) (by norm_num) (by norm_num)
          refine queries_cast ?_ _ _
          exact queries0_eq hq (by norm_num)
        refine next512 (o := 2560) (Q0 := 3584 + 256) (by norm_num) ?v ?s ?_
        case v => exact values512 hv _ (by norm_num)
        case s =>
          refine scores_off (B := 3584) (w := 256) hk ?_ _ (by norm_num) (by norm_num) (by norm_num)
          refine queries_cast ?_ _ _
          exact queries0_eq hq (by norm_num)
        refine next512 (o := 2048) (Q0 := 3584 + 256) (by norm_num) ?v ?s ?_
        case v => exact values512 hv _ (by norm_num)
        case s =>
          refine scores_off (B := 3584) (w := 256) hk ?_ _ (by norm_num) (by norm_num) (by norm_num)
          refine queries_cast ?_ _ _
          exact queries0_eq hq (by norm_num)
        refine next512 (o := 1536) (Q0 := 3584 + 256) (by norm_num) ?v ?s ?_
        case v => exact values512 hv _ (by norm_num)
        case s =>
          refine scores_off (B := 3584) (w := 256) hk ?_ _ (by norm_num) (by norm_num) (by norm_num)
          refine queries_cast ?_ _ _
          exact queries0_eq hq (by norm_num)
        refine next512 (o := 1024) (Q0 := 3584 + 256) (by norm_num) ?v ?s ?_
        case v => exact values512 hv _ (by norm_num)
        case s =>
          refine scores_off (B := 3584) (w := 256) hk ?_ _ (by norm_num) (by norm_num) (by norm_num)
          refine queries_cast ?_ _ _
          exact queries0_eq hq (by norm_num)
        refine next512 (o := 512) (Q0 := 3584 + 256) (by norm_num) ?v ?s ?_
        case v => exact values512 hv _ (by norm_num)
        case s =>
          refine scores_off (B := 3584) (w := 256) hk ?_ _ (by norm_num) (by norm_num) (by norm_num)
          refine queries_cast ?_ _ _
          exact queries0_eq hq (by norm_num)
        refine first512 ?v ?s
        case v => exact values512 hv _ (by norm_num)
        case s =>
          refine scores_off (B := 3584) (w := 256) hk ?_ _ (by norm_num) (by norm_num) (by norm_num)
          refine queries_cast ?_ _ _
          exact queries0_eq hq (by norm_num)
      case s0 =>
        refine next256 (o := 3584) (Q0 := 3584 + 0) (by norm_num) ?v ?s ?_
        case v => exact values256 hv _ (by norm_num)
        case s =>
          refine scores_diag256 hk ?_ (by norm_num)
          intro d r
          refine queries_read ?_ (by norm_num) _ _ _
          exact queries0_eq hq (by norm_num)
        refine next512 (o := 3072) (Q0 := 3584 + 0) (by norm_num) ?v ?s ?_
        case v => exact values512 hv _ (by norm_num)
        case s =>
          refine scores_off (B := 3584) (w := 0) hk ?_ _ (by norm_num) (by norm_num) (by norm_num)
          refine queries_cast ?_ _ _
          exact queries0_eq hq (by norm_num)
        refine next512 (o := 2560) (Q0 := 3584 + 0) (by norm_num) ?v ?s ?_
        case v => exact values512 hv _ (by norm_num)
        case s =>
          refine scores_off (B := 3584) (w := 0) hk ?_ _ (by norm_num) (by norm_num) (by norm_num)
          refine queries_cast ?_ _ _
          exact queries0_eq hq (by norm_num)
        refine next512 (o := 2048) (Q0 := 3584 + 0) (by norm_num) ?v ?s ?_
        case v => exact values512 hv _ (by norm_num)
        case s =>
          refine scores_off (B := 3584) (w := 0) hk ?_ _ (by norm_num) (by norm_num) (by norm_num)
          refine queries_cast ?_ _ _
          exact queries0_eq hq (by norm_num)
        refine next512 (o := 1536) (Q0 := 3584 + 0) (by norm_num) ?v ?s ?_
        case v => exact values512 hv _ (by norm_num)
        case s =>
          refine scores_off (B := 3584) (w := 0) hk ?_ _ (by norm_num) (by norm_num) (by norm_num)
          refine queries_cast ?_ _ _
          exact queries0_eq hq (by norm_num)
        refine next512 (o := 1024) (Q0 := 3584 + 0) (by norm_num) ?v ?s ?_
        case v => exact values512 hv _ (by norm_num)
        case s =>
          refine scores_off (B := 3584) (w := 0) hk ?_ _ (by norm_num) (by norm_num) (by norm_num)
          refine queries_cast ?_ _ _
          exact queries0_eq hq (by norm_num)
        refine next512 (o := 512) (Q0 := 3584 + 0) (by norm_num) ?v ?s ?_
        case v => exact values512 hv _ (by norm_num)
        case s =>
          refine scores_off (B := 3584) (w := 0) hk ?_ _ (by norm_num) (by norm_num) (by norm_num)
          refine queries_cast ?_ _ _
          exact queries0_eq hq (by norm_num)
        refine first512 ?v ?s
        case v => exact values512 hv _ (by norm_num)
        case s =>
          refine scores_off (B := 3584) (w := 0) hk ?_ _ (by norm_num) (by norm_num) (by norm_num)
          refine queries_cast ?_ _ _
          exact queries0_eq hq (by norm_num)
    case c2 =>
      refine join (M0 := ?m710) (M1 := ?m711) (n1 := 4096) (n0 := 3840) ?s1 ?s0 (by norm_num) (by norm_num) _
      case s1 =>
        refine next512 (o := 3584) (Q0 := 3584 + 256) (by norm_num) ?v ?s ?_
        case v => exact values512 hv _ (by norm_num)
        case s =>
          refine scores_diag512 hk ?_ (by norm_num)
          intro d r
          refine queries_read ?_ (by norm_num) _ _ _
          exact queries1_eq hq (by norm_num)
        refine next512 (o := 3072) (Q0 := 3584 + 256) (by norm_num) ?v ?s ?_
        case v => exact values512 hv _ (by norm_num)
        case s =>
          refine scores_off (B := 3584) (w := 256) hk ?_ _ (by norm_num) (by norm_num) (by norm_num)
          refine queries_cast ?_ _ _
          exact queries1_eq hq (by norm_num)
        refine next512 (o := 2560) (Q0 := 3584 + 256) (by norm_num) ?v ?s ?_
        case v => exact values512 hv _ (by norm_num)
        case s =>
          refine scores_off (B := 3584) (w := 256) hk ?_ _ (by norm_num) (by norm_num) (by norm_num)
          refine queries_cast ?_ _ _
          exact queries1_eq hq (by norm_num)
        refine next512 (o := 2048) (Q0 := 3584 + 256) (by norm_num) ?v ?s ?_
        case v => exact values512 hv _ (by norm_num)
        case s =>
          refine scores_off (B := 3584) (w := 256) hk ?_ _ (by norm_num) (by norm_num) (by norm_num)
          refine queries_cast ?_ _ _
          exact queries1_eq hq (by norm_num)
        refine next512 (o := 1536) (Q0 := 3584 + 256) (by norm_num) ?v ?s ?_
        case v => exact values512 hv _ (by norm_num)
        case s =>
          refine scores_off (B := 3584) (w := 256) hk ?_ _ (by norm_num) (by norm_num) (by norm_num)
          refine queries_cast ?_ _ _
          exact queries1_eq hq (by norm_num)
        refine next512 (o := 1024) (Q0 := 3584 + 256) (by norm_num) ?v ?s ?_
        case v => exact values512 hv _ (by norm_num)
        case s =>
          refine scores_off (B := 3584) (w := 256) hk ?_ _ (by norm_num) (by norm_num) (by norm_num)
          refine queries_cast ?_ _ _
          exact queries1_eq hq (by norm_num)
        refine next512 (o := 512) (Q0 := 3584 + 256) (by norm_num) ?v ?s ?_
        case v => exact values512 hv _ (by norm_num)
        case s =>
          refine scores_off (B := 3584) (w := 256) hk ?_ _ (by norm_num) (by norm_num) (by norm_num)
          refine queries_cast ?_ _ _
          exact queries1_eq hq (by norm_num)
        refine first512 ?v ?s
        case v => exact values512 hv _ (by norm_num)
        case s =>
          refine scores_off (B := 3584) (w := 256) hk ?_ _ (by norm_num) (by norm_num) (by norm_num)
          refine queries_cast ?_ _ _
          exact queries1_eq hq (by norm_num)
      case s0 =>
        refine next256 (o := 3584) (Q0 := 3584 + 0) (by norm_num) ?v ?s ?_
        case v => exact values256 hv _ (by norm_num)
        case s =>
          refine scores_diag256 hk ?_ (by norm_num)
          intro d r
          refine queries_read ?_ (by norm_num) _ _ _
          exact queries1_eq hq (by norm_num)
        refine next512 (o := 3072) (Q0 := 3584 + 0) (by norm_num) ?v ?s ?_
        case v => exact values512 hv _ (by norm_num)
        case s =>
          refine scores_off (B := 3584) (w := 0) hk ?_ _ (by norm_num) (by norm_num) (by norm_num)
          refine queries_cast ?_ _ _
          exact queries1_eq hq (by norm_num)
        refine next512 (o := 2560) (Q0 := 3584 + 0) (by norm_num) ?v ?s ?_
        case v => exact values512 hv _ (by norm_num)
        case s =>
          refine scores_off (B := 3584) (w := 0) hk ?_ _ (by norm_num) (by norm_num) (by norm_num)
          refine queries_cast ?_ _ _
          exact queries1_eq hq (by norm_num)
        refine next512 (o := 2048) (Q0 := 3584 + 0) (by norm_num) ?v ?s ?_
        case v => exact values512 hv _ (by norm_num)
        case s =>
          refine scores_off (B := 3584) (w := 0) hk ?_ _ (by norm_num) (by norm_num) (by norm_num)
          refine queries_cast ?_ _ _
          exact queries1_eq hq (by norm_num)
        refine next512 (o := 1536) (Q0 := 3584 + 0) (by norm_num) ?v ?s ?_
        case v => exact values512 hv _ (by norm_num)
        case s =>
          refine scores_off (B := 3584) (w := 0) hk ?_ _ (by norm_num) (by norm_num) (by norm_num)
          refine queries_cast ?_ _ _
          exact queries1_eq hq (by norm_num)
        refine next512 (o := 1024) (Q0 := 3584 + 0) (by norm_num) ?v ?s ?_
        case v => exact values512 hv _ (by norm_num)
        case s =>
          refine scores_off (B := 3584) (w := 0) hk ?_ _ (by norm_num) (by norm_num) (by norm_num)
          refine queries_cast ?_ _ _
          exact queries1_eq hq (by norm_num)
        refine next512 (o := 512) (Q0 := 3584 + 0) (by norm_num) ?v ?s ?_
        case v => exact values512 hv _ (by norm_num)
        case s =>
          refine scores_off (B := 3584) (w := 0) hk ?_ _ (by norm_num) (by norm_num) (by norm_num)
          refine queries_cast ?_ _ _
          exact queries1_eq hq (by norm_num)
        refine first512 ?v ?s
        case v => exact values512 hv _ (by norm_num)
        case s =>
          refine scores_off (B := 3584) (w := 0) hk ?_ _ (by norm_num) (by norm_num) (by norm_num)
          refine queries_cast ?_ _ _
          exact queries1_eq hq (by norm_num)
  case h6 =>
    intro x
    refine finish_eq hlam ?c1 ?c2 G hG x (by norm_num)
    case c1 =>
      refine join (M0 := ?m600) (M1 := ?m601) (n1 := 3584) (n0 := 3328) ?s1 ?s0 (by norm_num) (by norm_num) _
      case s1 =>
        refine next512 (o := 3072) (Q0 := 3072 + 256) (by norm_num) ?v ?s ?_
        case v => exact values512 hv _ (by norm_num)
        case s =>
          refine scores_diag512 hk ?_ (by norm_num)
          intro d r
          refine queries_read ?_ (by norm_num) _ _ _
          exact queries0_eq hq (by norm_num)
        refine next512 (o := 2560) (Q0 := 3072 + 256) (by norm_num) ?v ?s ?_
        case v => exact values512 hv _ (by norm_num)
        case s =>
          refine scores_off (B := 3072) (w := 256) hk ?_ _ (by norm_num) (by norm_num) (by norm_num)
          refine queries_cast ?_ _ _
          exact queries0_eq hq (by norm_num)
        refine next512 (o := 2048) (Q0 := 3072 + 256) (by norm_num) ?v ?s ?_
        case v => exact values512 hv _ (by norm_num)
        case s =>
          refine scores_off (B := 3072) (w := 256) hk ?_ _ (by norm_num) (by norm_num) (by norm_num)
          refine queries_cast ?_ _ _
          exact queries0_eq hq (by norm_num)
        refine next512 (o := 1536) (Q0 := 3072 + 256) (by norm_num) ?v ?s ?_
        case v => exact values512 hv _ (by norm_num)
        case s =>
          refine scores_off (B := 3072) (w := 256) hk ?_ _ (by norm_num) (by norm_num) (by norm_num)
          refine queries_cast ?_ _ _
          exact queries0_eq hq (by norm_num)
        refine next512 (o := 1024) (Q0 := 3072 + 256) (by norm_num) ?v ?s ?_
        case v => exact values512 hv _ (by norm_num)
        case s =>
          refine scores_off (B := 3072) (w := 256) hk ?_ _ (by norm_num) (by norm_num) (by norm_num)
          refine queries_cast ?_ _ _
          exact queries0_eq hq (by norm_num)
        refine next512 (o := 512) (Q0 := 3072 + 256) (by norm_num) ?v ?s ?_
        case v => exact values512 hv _ (by norm_num)
        case s =>
          refine scores_off (B := 3072) (w := 256) hk ?_ _ (by norm_num) (by norm_num) (by norm_num)
          refine queries_cast ?_ _ _
          exact queries0_eq hq (by norm_num)
        refine first512 ?v ?s
        case v => exact values512 hv _ (by norm_num)
        case s =>
          refine scores_off (B := 3072) (w := 256) hk ?_ _ (by norm_num) (by norm_num) (by norm_num)
          refine queries_cast ?_ _ _
          exact queries0_eq hq (by norm_num)
      case s0 =>
        refine next256 (o := 3072) (Q0 := 3072 + 0) (by norm_num) ?v ?s ?_
        case v => exact values256 hv _ (by norm_num)
        case s =>
          refine scores_diag256 hk ?_ (by norm_num)
          intro d r
          refine queries_read ?_ (by norm_num) _ _ _
          exact queries0_eq hq (by norm_num)
        refine next512 (o := 2560) (Q0 := 3072 + 0) (by norm_num) ?v ?s ?_
        case v => exact values512 hv _ (by norm_num)
        case s =>
          refine scores_off (B := 3072) (w := 0) hk ?_ _ (by norm_num) (by norm_num) (by norm_num)
          refine queries_cast ?_ _ _
          exact queries0_eq hq (by norm_num)
        refine next512 (o := 2048) (Q0 := 3072 + 0) (by norm_num) ?v ?s ?_
        case v => exact values512 hv _ (by norm_num)
        case s =>
          refine scores_off (B := 3072) (w := 0) hk ?_ _ (by norm_num) (by norm_num) (by norm_num)
          refine queries_cast ?_ _ _
          exact queries0_eq hq (by norm_num)
        refine next512 (o := 1536) (Q0 := 3072 + 0) (by norm_num) ?v ?s ?_
        case v => exact values512 hv _ (by norm_num)
        case s =>
          refine scores_off (B := 3072) (w := 0) hk ?_ _ (by norm_num) (by norm_num) (by norm_num)
          refine queries_cast ?_ _ _
          exact queries0_eq hq (by norm_num)
        refine next512 (o := 1024) (Q0 := 3072 + 0) (by norm_num) ?v ?s ?_
        case v => exact values512 hv _ (by norm_num)
        case s =>
          refine scores_off (B := 3072) (w := 0) hk ?_ _ (by norm_num) (by norm_num) (by norm_num)
          refine queries_cast ?_ _ _
          exact queries0_eq hq (by norm_num)
        refine next512 (o := 512) (Q0 := 3072 + 0) (by norm_num) ?v ?s ?_
        case v => exact values512 hv _ (by norm_num)
        case s =>
          refine scores_off (B := 3072) (w := 0) hk ?_ _ (by norm_num) (by norm_num) (by norm_num)
          refine queries_cast ?_ _ _
          exact queries0_eq hq (by norm_num)
        refine first512 ?v ?s
        case v => exact values512 hv _ (by norm_num)
        case s =>
          refine scores_off (B := 3072) (w := 0) hk ?_ _ (by norm_num) (by norm_num) (by norm_num)
          refine queries_cast ?_ _ _
          exact queries0_eq hq (by norm_num)
    case c2 =>
      refine join (M0 := ?m610) (M1 := ?m611) (n1 := 3584) (n0 := 3328) ?s1 ?s0 (by norm_num) (by norm_num) _
      case s1 =>
        refine next512 (o := 3072) (Q0 := 3072 + 256) (by norm_num) ?v ?s ?_
        case v => exact values512 hv _ (by norm_num)
        case s =>
          refine scores_diag512 hk ?_ (by norm_num)
          intro d r
          refine queries_read ?_ (by norm_num) _ _ _
          exact queries1_eq hq (by norm_num)
        refine next512 (o := 2560) (Q0 := 3072 + 256) (by norm_num) ?v ?s ?_
        case v => exact values512 hv _ (by norm_num)
        case s =>
          refine scores_off (B := 3072) (w := 256) hk ?_ _ (by norm_num) (by norm_num) (by norm_num)
          refine queries_cast ?_ _ _
          exact queries1_eq hq (by norm_num)
        refine next512 (o := 2048) (Q0 := 3072 + 256) (by norm_num) ?v ?s ?_
        case v => exact values512 hv _ (by norm_num)
        case s =>
          refine scores_off (B := 3072) (w := 256) hk ?_ _ (by norm_num) (by norm_num) (by norm_num)
          refine queries_cast ?_ _ _
          exact queries1_eq hq (by norm_num)
        refine next512 (o := 1536) (Q0 := 3072 + 256) (by norm_num) ?v ?s ?_
        case v => exact values512 hv _ (by norm_num)
        case s =>
          refine scores_off (B := 3072) (w := 256) hk ?_ _ (by norm_num) (by norm_num) (by norm_num)
          refine queries_cast ?_ _ _
          exact queries1_eq hq (by norm_num)
        refine next512 (o := 1024) (Q0 := 3072 + 256) (by norm_num) ?v ?s ?_
        case v => exact values512 hv _ (by norm_num)
        case s =>
          refine scores_off (B := 3072) (w := 256) hk ?_ _ (by norm_num) (by norm_num) (by norm_num)
          refine queries_cast ?_ _ _
          exact queries1_eq hq (by norm_num)
        refine next512 (o := 512) (Q0 := 3072 + 256) (by norm_num) ?v ?s ?_
        case v => exact values512 hv _ (by norm_num)
        case s =>
          refine scores_off (B := 3072) (w := 256) hk ?_ _ (by norm_num) (by norm_num) (by norm_num)
          refine queries_cast ?_ _ _
          exact queries1_eq hq (by norm_num)
        refine first512 ?v ?s
        case v => exact values512 hv _ (by norm_num)
        case s =>
          refine scores_off (B := 3072) (w := 256) hk ?_ _ (by norm_num) (by norm_num) (by norm_num)
          refine queries_cast ?_ _ _
          exact queries1_eq hq (by norm_num)
      case s0 =>
        refine next256 (o := 3072) (Q0 := 3072 + 0) (by norm_num) ?v ?s ?_
        case v => exact values256 hv _ (by norm_num)
        case s =>
          refine scores_diag256 hk ?_ (by norm_num)
          intro d r
          refine queries_read ?_ (by norm_num) _ _ _
          exact queries1_eq hq (by norm_num)
        refine next512 (o := 2560) (Q0 := 3072 + 0) (by norm_num) ?v ?s ?_
        case v => exact values512 hv _ (by norm_num)
        case s =>
          refine scores_off (B := 3072) (w := 0) hk ?_ _ (by norm_num) (by norm_num) (by norm_num)
          refine queries_cast ?_ _ _
          exact queries1_eq hq (by norm_num)
        refine next512 (o := 2048) (Q0 := 3072 + 0) (by norm_num) ?v ?s ?_
        case v => exact values512 hv _ (by norm_num)
        case s =>
          refine scores_off (B := 3072) (w := 0) hk ?_ _ (by norm_num) (by norm_num) (by norm_num)
          refine queries_cast ?_ _ _
          exact queries1_eq hq (by norm_num)
        refine next512 (o := 1536) (Q0 := 3072 + 0) (by norm_num) ?v ?s ?_
        case v => exact values512 hv _ (by norm_num)
        case s =>
          refine scores_off (B := 3072) (w := 0) hk ?_ _ (by norm_num) (by norm_num) (by norm_num)
          refine queries_cast ?_ _ _
          exact queries1_eq hq (by norm_num)
        refine next512 (o := 1024) (Q0 := 3072 + 0) (by norm_num) ?v ?s ?_
        case v => exact values512 hv _ (by norm_num)
        case s =>
          refine scores_off (B := 3072) (w := 0) hk ?_ _ (by norm_num) (by norm_num) (by norm_num)
          refine queries_cast ?_ _ _
          exact queries1_eq hq (by norm_num)
        refine next512 (o := 512) (Q0 := 3072 + 0) (by norm_num) ?v ?s ?_
        case v => exact values512 hv _ (by norm_num)
        case s =>
          refine scores_off (B := 3072) (w := 0) hk ?_ _ (by norm_num) (by norm_num) (by norm_num)
          refine queries_cast ?_ _ _
          exact queries1_eq hq (by norm_num)
        refine first512 ?v ?s
        case v => exact values512 hv _ (by norm_num)
        case s =>
          refine scores_off (B := 3072) (w := 0) hk ?_ _ (by norm_num) (by norm_num) (by norm_num)
          refine queries_cast ?_ _ _
          exact queries1_eq hq (by norm_num)
  case h5 =>
    intro x
    refine finish_eq hlam ?c1 ?c2 G hG x (by norm_num)
    case c1 =>
      refine join (M0 := ?m500) (M1 := ?m501) (n1 := 3072) (n0 := 2816) ?s1 ?s0 (by norm_num) (by norm_num) _
      case s1 =>
        refine next512 (o := 2560) (Q0 := 2560 + 256) (by norm_num) ?v ?s ?_
        case v => exact values512 hv _ (by norm_num)
        case s =>
          refine scores_diag512 hk ?_ (by norm_num)
          intro d r
          refine queries_read ?_ (by norm_num) _ _ _
          exact queries0_eq hq (by norm_num)
        refine next512 (o := 2048) (Q0 := 2560 + 256) (by norm_num) ?v ?s ?_
        case v => exact values512 hv _ (by norm_num)
        case s =>
          refine scores_off (B := 2560) (w := 256) hk ?_ _ (by norm_num) (by norm_num) (by norm_num)
          refine queries_cast ?_ _ _
          exact queries0_eq hq (by norm_num)
        refine next512 (o := 1536) (Q0 := 2560 + 256) (by norm_num) ?v ?s ?_
        case v => exact values512 hv _ (by norm_num)
        case s =>
          refine scores_off (B := 2560) (w := 256) hk ?_ _ (by norm_num) (by norm_num) (by norm_num)
          refine queries_cast ?_ _ _
          exact queries0_eq hq (by norm_num)
        refine next512 (o := 1024) (Q0 := 2560 + 256) (by norm_num) ?v ?s ?_
        case v => exact values512 hv _ (by norm_num)
        case s =>
          refine scores_off (B := 2560) (w := 256) hk ?_ _ (by norm_num) (by norm_num) (by norm_num)
          refine queries_cast ?_ _ _
          exact queries0_eq hq (by norm_num)
        refine next512 (o := 512) (Q0 := 2560 + 256) (by norm_num) ?v ?s ?_
        case v => exact values512 hv _ (by norm_num)
        case s =>
          refine scores_off (B := 2560) (w := 256) hk ?_ _ (by norm_num) (by norm_num) (by norm_num)
          refine queries_cast ?_ _ _
          exact queries0_eq hq (by norm_num)
        refine first512 ?v ?s
        case v => exact values512 hv _ (by norm_num)
        case s =>
          refine scores_off (B := 2560) (w := 256) hk ?_ _ (by norm_num) (by norm_num) (by norm_num)
          refine queries_cast ?_ _ _
          exact queries0_eq hq (by norm_num)
      case s0 =>
        refine next256 (o := 2560) (Q0 := 2560 + 0) (by norm_num) ?v ?s ?_
        case v => exact values256 hv _ (by norm_num)
        case s =>
          refine scores_diag256 hk ?_ (by norm_num)
          intro d r
          refine queries_read ?_ (by norm_num) _ _ _
          exact queries0_eq hq (by norm_num)
        refine next512 (o := 2048) (Q0 := 2560 + 0) (by norm_num) ?v ?s ?_
        case v => exact values512 hv _ (by norm_num)
        case s =>
          refine scores_off (B := 2560) (w := 0) hk ?_ _ (by norm_num) (by norm_num) (by norm_num)
          refine queries_cast ?_ _ _
          exact queries0_eq hq (by norm_num)
        refine next512 (o := 1536) (Q0 := 2560 + 0) (by norm_num) ?v ?s ?_
        case v => exact values512 hv _ (by norm_num)
        case s =>
          refine scores_off (B := 2560) (w := 0) hk ?_ _ (by norm_num) (by norm_num) (by norm_num)
          refine queries_cast ?_ _ _
          exact queries0_eq hq (by norm_num)
        refine next512 (o := 1024) (Q0 := 2560 + 0) (by norm_num) ?v ?s ?_
        case v => exact values512 hv _ (by norm_num)
        case s =>
          refine scores_off (B := 2560) (w := 0) hk ?_ _ (by norm_num) (by norm_num) (by norm_num)
          refine queries_cast ?_ _ _
          exact queries0_eq hq (by norm_num)
        refine next512 (o := 512) (Q0 := 2560 + 0) (by norm_num) ?v ?s ?_
        case v => exact values512 hv _ (by norm_num)
        case s =>
          refine scores_off (B := 2560) (w := 0) hk ?_ _ (by norm_num) (by norm_num) (by norm_num)
          refine queries_cast ?_ _ _
          exact queries0_eq hq (by norm_num)
        refine first512 ?v ?s
        case v => exact values512 hv _ (by norm_num)
        case s =>
          refine scores_off (B := 2560) (w := 0) hk ?_ _ (by norm_num) (by norm_num) (by norm_num)
          refine queries_cast ?_ _ _
          exact queries0_eq hq (by norm_num)
    case c2 =>
      refine join (M0 := ?m510) (M1 := ?m511) (n1 := 3072) (n0 := 2816) ?s1 ?s0 (by norm_num) (by norm_num) _
      case s1 =>
        refine next512 (o := 2560) (Q0 := 2560 + 256) (by norm_num) ?v ?s ?_
        case v => exact values512 hv _ (by norm_num)
        case s =>
          refine scores_diag512 hk ?_ (by norm_num)
          intro d r
          refine queries_read ?_ (by norm_num) _ _ _
          exact queries1_eq hq (by norm_num)
        refine next512 (o := 2048) (Q0 := 2560 + 256) (by norm_num) ?v ?s ?_
        case v => exact values512 hv _ (by norm_num)
        case s =>
          refine scores_off (B := 2560) (w := 256) hk ?_ _ (by norm_num) (by norm_num) (by norm_num)
          refine queries_cast ?_ _ _
          exact queries1_eq hq (by norm_num)
        refine next512 (o := 1536) (Q0 := 2560 + 256) (by norm_num) ?v ?s ?_
        case v => exact values512 hv _ (by norm_num)
        case s =>
          refine scores_off (B := 2560) (w := 256) hk ?_ _ (by norm_num) (by norm_num) (by norm_num)
          refine queries_cast ?_ _ _
          exact queries1_eq hq (by norm_num)
        refine next512 (o := 1024) (Q0 := 2560 + 256) (by norm_num) ?v ?s ?_
        case v => exact values512 hv _ (by norm_num)
        case s =>
          refine scores_off (B := 2560) (w := 256) hk ?_ _ (by norm_num) (by norm_num) (by norm_num)
          refine queries_cast ?_ _ _
          exact queries1_eq hq (by norm_num)
        refine next512 (o := 512) (Q0 := 2560 + 256) (by norm_num) ?v ?s ?_
        case v => exact values512 hv _ (by norm_num)
        case s =>
          refine scores_off (B := 2560) (w := 256) hk ?_ _ (by norm_num) (by norm_num) (by norm_num)
          refine queries_cast ?_ _ _
          exact queries1_eq hq (by norm_num)
        refine first512 ?v ?s
        case v => exact values512 hv _ (by norm_num)
        case s =>
          refine scores_off (B := 2560) (w := 256) hk ?_ _ (by norm_num) (by norm_num) (by norm_num)
          refine queries_cast ?_ _ _
          exact queries1_eq hq (by norm_num)
      case s0 =>
        refine next256 (o := 2560) (Q0 := 2560 + 0) (by norm_num) ?v ?s ?_
        case v => exact values256 hv _ (by norm_num)
        case s =>
          refine scores_diag256 hk ?_ (by norm_num)
          intro d r
          refine queries_read ?_ (by norm_num) _ _ _
          exact queries1_eq hq (by norm_num)
        refine next512 (o := 2048) (Q0 := 2560 + 0) (by norm_num) ?v ?s ?_
        case v => exact values512 hv _ (by norm_num)
        case s =>
          refine scores_off (B := 2560) (w := 0) hk ?_ _ (by norm_num) (by norm_num) (by norm_num)
          refine queries_cast ?_ _ _
          exact queries1_eq hq (by norm_num)
        refine next512 (o := 1536) (Q0 := 2560 + 0) (by norm_num) ?v ?s ?_
        case v => exact values512 hv _ (by norm_num)
        case s =>
          refine scores_off (B := 2560) (w := 0) hk ?_ _ (by norm_num) (by norm_num) (by norm_num)
          refine queries_cast ?_ _ _
          exact queries1_eq hq (by norm_num)
        refine next512 (o := 1024) (Q0 := 2560 + 0) (by norm_num) ?v ?s ?_
        case v => exact values512 hv _ (by norm_num)
        case s =>
          refine scores_off (B := 2560) (w := 0) hk ?_ _ (by norm_num) (by norm_num) (by norm_num)
          refine queries_cast ?_ _ _
          exact queries1_eq hq (by norm_num)
        refine next512 (o := 512) (Q0 := 2560 + 0) (by norm_num) ?v ?s ?_
        case v => exact values512 hv _ (by norm_num)
        case s =>
          refine scores_off (B := 2560) (w := 0) hk ?_ _ (by norm_num) (by norm_num) (by norm_num)
          refine queries_cast ?_ _ _
          exact queries1_eq hq (by norm_num)
        refine first512 ?v ?s
        case v => exact values512 hv _ (by norm_num)
        case s =>
          refine scores_off (B := 2560) (w := 0) hk ?_ _ (by norm_num) (by norm_num) (by norm_num)
          refine queries_cast ?_ _ _
          exact queries1_eq hq (by norm_num)
  case h4 =>
    intro x
    refine finish_eq hlam ?c1 ?c2 G hG x (by norm_num)
    case c1 =>
      refine join (M0 := ?m400) (M1 := ?m401) (n1 := 2560) (n0 := 2304) ?s1 ?s0 (by norm_num) (by norm_num) _
      case s1 =>
        refine next512 (o := 2048) (Q0 := 2048 + 256) (by norm_num) ?v ?s ?_
        case v => exact values512 hv _ (by norm_num)
        case s =>
          refine scores_diag512 hk ?_ (by norm_num)
          intro d r
          refine queries_read ?_ (by norm_num) _ _ _
          exact queries0_eq hq (by norm_num)
        refine next512 (o := 1536) (Q0 := 2048 + 256) (by norm_num) ?v ?s ?_
        case v => exact values512 hv _ (by norm_num)
        case s =>
          refine scores_off (B := 2048) (w := 256) hk ?_ _ (by norm_num) (by norm_num) (by norm_num)
          refine queries_cast ?_ _ _
          exact queries0_eq hq (by norm_num)
        refine next512 (o := 1024) (Q0 := 2048 + 256) (by norm_num) ?v ?s ?_
        case v => exact values512 hv _ (by norm_num)
        case s =>
          refine scores_off (B := 2048) (w := 256) hk ?_ _ (by norm_num) (by norm_num) (by norm_num)
          refine queries_cast ?_ _ _
          exact queries0_eq hq (by norm_num)
        refine next512 (o := 512) (Q0 := 2048 + 256) (by norm_num) ?v ?s ?_
        case v => exact values512 hv _ (by norm_num)
        case s =>
          refine scores_off (B := 2048) (w := 256) hk ?_ _ (by norm_num) (by norm_num) (by norm_num)
          refine queries_cast ?_ _ _
          exact queries0_eq hq (by norm_num)
        refine first512 ?v ?s
        case v => exact values512 hv _ (by norm_num)
        case s =>
          refine scores_off (B := 2048) (w := 256) hk ?_ _ (by norm_num) (by norm_num) (by norm_num)
          refine queries_cast ?_ _ _
          exact queries0_eq hq (by norm_num)
      case s0 =>
        refine next256 (o := 2048) (Q0 := 2048 + 0) (by norm_num) ?v ?s ?_
        case v => exact values256 hv _ (by norm_num)
        case s =>
          refine scores_diag256 hk ?_ (by norm_num)
          intro d r
          refine queries_read ?_ (by norm_num) _ _ _
          exact queries0_eq hq (by norm_num)
        refine next512 (o := 1536) (Q0 := 2048 + 0) (by norm_num) ?v ?s ?_
        case v => exact values512 hv _ (by norm_num)
        case s =>
          refine scores_off (B := 2048) (w := 0) hk ?_ _ (by norm_num) (by norm_num) (by norm_num)
          refine queries_cast ?_ _ _
          exact queries0_eq hq (by norm_num)
        refine next512 (o := 1024) (Q0 := 2048 + 0) (by norm_num) ?v ?s ?_
        case v => exact values512 hv _ (by norm_num)
        case s =>
          refine scores_off (B := 2048) (w := 0) hk ?_ _ (by norm_num) (by norm_num) (by norm_num)
          refine queries_cast ?_ _ _
          exact queries0_eq hq (by norm_num)
        refine next512 (o := 512) (Q0 := 2048 + 0) (by norm_num) ?v ?s ?_
        case v => exact values512 hv _ (by norm_num)
        case s =>
          refine scores_off (B := 2048) (w := 0) hk ?_ _ (by norm_num) (by norm_num) (by norm_num)
          refine queries_cast ?_ _ _
          exact queries0_eq hq (by norm_num)
        refine first512 ?v ?s
        case v => exact values512 hv _ (by norm_num)
        case s =>
          refine scores_off (B := 2048) (w := 0) hk ?_ _ (by norm_num) (by norm_num) (by norm_num)
          refine queries_cast ?_ _ _
          exact queries0_eq hq (by norm_num)
    case c2 =>
      refine join (M0 := ?m410) (M1 := ?m411) (n1 := 2560) (n0 := 2304) ?s1 ?s0 (by norm_num) (by norm_num) _
      case s1 =>
        refine next512 (o := 2048) (Q0 := 2048 + 256) (by norm_num) ?v ?s ?_
        case v => exact values512 hv _ (by norm_num)
        case s =>
          refine scores_diag512 hk ?_ (by norm_num)
          intro d r
          refine queries_read ?_ (by norm_num) _ _ _
          exact queries1_eq hq (by norm_num)
        refine next512 (o := 1536) (Q0 := 2048 + 256) (by norm_num) ?v ?s ?_
        case v => exact values512 hv _ (by norm_num)
        case s =>
          refine scores_off (B := 2048) (w := 256) hk ?_ _ (by norm_num) (by norm_num) (by norm_num)
          refine queries_cast ?_ _ _
          exact queries1_eq hq (by norm_num)
        refine next512 (o := 1024) (Q0 := 2048 + 256) (by norm_num) ?v ?s ?_
        case v => exact values512 hv _ (by norm_num)
        case s =>
          refine scores_off (B := 2048) (w := 256) hk ?_ _ (by norm_num) (by norm_num) (by norm_num)
          refine queries_cast ?_ _ _
          exact queries1_eq hq (by norm_num)
        refine next512 (o := 512) (Q0 := 2048 + 256) (by norm_num) ?v ?s ?_
        case v => exact values512 hv _ (by norm_num)
        case s =>
          refine scores_off (B := 2048) (w := 256) hk ?_ _ (by norm_num) (by norm_num) (by norm_num)
          refine queries_cast ?_ _ _
          exact queries1_eq hq (by norm_num)
        refine first512 ?v ?s
        case v => exact values512 hv _ (by norm_num)
        case s =>
          refine scores_off (B := 2048) (w := 256) hk ?_ _ (by norm_num) (by norm_num) (by norm_num)
          refine queries_cast ?_ _ _
          exact queries1_eq hq (by norm_num)
      case s0 =>
        refine next256 (o := 2048) (Q0 := 2048 + 0) (by norm_num) ?v ?s ?_
        case v => exact values256 hv _ (by norm_num)
        case s =>
          refine scores_diag256 hk ?_ (by norm_num)
          intro d r
          refine queries_read ?_ (by norm_num) _ _ _
          exact queries1_eq hq (by norm_num)
        refine next512 (o := 1536) (Q0 := 2048 + 0) (by norm_num) ?v ?s ?_
        case v => exact values512 hv _ (by norm_num)
        case s =>
          refine scores_off (B := 2048) (w := 0) hk ?_ _ (by norm_num) (by norm_num) (by norm_num)
          refine queries_cast ?_ _ _
          exact queries1_eq hq (by norm_num)
        refine next512 (o := 1024) (Q0 := 2048 + 0) (by norm_num) ?v ?s ?_
        case v => exact values512 hv _ (by norm_num)
        case s =>
          refine scores_off (B := 2048) (w := 0) hk ?_ _ (by norm_num) (by norm_num) (by norm_num)
          refine queries_cast ?_ _ _
          exact queries1_eq hq (by norm_num)
        refine next512 (o := 512) (Q0 := 2048 + 0) (by norm_num) ?v ?s ?_
        case v => exact values512 hv _ (by norm_num)
        case s =>
          refine scores_off (B := 2048) (w := 0) hk ?_ _ (by norm_num) (by norm_num) (by norm_num)
          refine queries_cast ?_ _ _
          exact queries1_eq hq (by norm_num)
        refine first512 ?v ?s
        case v => exact values512 hv _ (by norm_num)
        case s =>
          refine scores_off (B := 2048) (w := 0) hk ?_ _ (by norm_num) (by norm_num) (by norm_num)
          refine queries_cast ?_ _ _
          exact queries1_eq hq (by norm_num)
  case h3 =>
    intro x
    refine finish_eq hlam ?c1 ?c2 G hG x (by norm_num)
    case c1 =>
      refine join (M0 := ?m300) (M1 := ?m301) (n1 := 2048) (n0 := 1792) ?s1 ?s0 (by norm_num) (by norm_num) _
      case s1 =>
        refine next512 (o := 1536) (Q0 := 1536 + 256) (by norm_num) ?v ?s ?_
        case v => exact values512 hv _ (by norm_num)
        case s =>
          refine scores_diag512 hk ?_ (by norm_num)
          intro d r
          refine queries_read ?_ (by norm_num) _ _ _
          exact queries0_eq hq (by norm_num)
        refine next512 (o := 1024) (Q0 := 1536 + 256) (by norm_num) ?v ?s ?_
        case v => exact values512 hv _ (by norm_num)
        case s =>
          refine scores_off (B := 1536) (w := 256) hk ?_ _ (by norm_num) (by norm_num) (by norm_num)
          refine queries_cast ?_ _ _
          exact queries0_eq hq (by norm_num)
        refine next512 (o := 512) (Q0 := 1536 + 256) (by norm_num) ?v ?s ?_
        case v => exact values512 hv _ (by norm_num)
        case s =>
          refine scores_off (B := 1536) (w := 256) hk ?_ _ (by norm_num) (by norm_num) (by norm_num)
          refine queries_cast ?_ _ _
          exact queries0_eq hq (by norm_num)
        refine first512 ?v ?s
        case v => exact values512 hv _ (by norm_num)
        case s =>
          refine scores_off (B := 1536) (w := 256) hk ?_ _ (by norm_num) (by norm_num) (by norm_num)
          refine queries_cast ?_ _ _
          exact queries0_eq hq (by norm_num)
      case s0 =>
        refine next256 (o := 1536) (Q0 := 1536 + 0) (by norm_num) ?v ?s ?_
        case v => exact values256 hv _ (by norm_num)
        case s =>
          refine scores_diag256 hk ?_ (by norm_num)
          intro d r
          refine queries_read ?_ (by norm_num) _ _ _
          exact queries0_eq hq (by norm_num)
        refine next512 (o := 1024) (Q0 := 1536 + 0) (by norm_num) ?v ?s ?_
        case v => exact values512 hv _ (by norm_num)
        case s =>
          refine scores_off (B := 1536) (w := 0) hk ?_ _ (by norm_num) (by norm_num) (by norm_num)
          refine queries_cast ?_ _ _
          exact queries0_eq hq (by norm_num)
        refine next512 (o := 512) (Q0 := 1536 + 0) (by norm_num) ?v ?s ?_
        case v => exact values512 hv _ (by norm_num)
        case s =>
          refine scores_off (B := 1536) (w := 0) hk ?_ _ (by norm_num) (by norm_num) (by norm_num)
          refine queries_cast ?_ _ _
          exact queries0_eq hq (by norm_num)
        refine first512 ?v ?s
        case v => exact values512 hv _ (by norm_num)
        case s =>
          refine scores_off (B := 1536) (w := 0) hk ?_ _ (by norm_num) (by norm_num) (by norm_num)
          refine queries_cast ?_ _ _
          exact queries0_eq hq (by norm_num)
    case c2 =>
      refine join (M0 := ?m310) (M1 := ?m311) (n1 := 2048) (n0 := 1792) ?s1 ?s0 (by norm_num) (by norm_num) _
      case s1 =>
        refine next512 (o := 1536) (Q0 := 1536 + 256) (by norm_num) ?v ?s ?_
        case v => exact values512 hv _ (by norm_num)
        case s =>
          refine scores_diag512 hk ?_ (by norm_num)
          intro d r
          refine queries_read ?_ (by norm_num) _ _ _
          exact queries1_eq hq (by norm_num)
        refine next512 (o := 1024) (Q0 := 1536 + 256) (by norm_num) ?v ?s ?_
        case v => exact values512 hv _ (by norm_num)
        case s =>
          refine scores_off (B := 1536) (w := 256) hk ?_ _ (by norm_num) (by norm_num) (by norm_num)
          refine queries_cast ?_ _ _
          exact queries1_eq hq (by norm_num)
        refine next512 (o := 512) (Q0 := 1536 + 256) (by norm_num) ?v ?s ?_
        case v => exact values512 hv _ (by norm_num)
        case s =>
          refine scores_off (B := 1536) (w := 256) hk ?_ _ (by norm_num) (by norm_num) (by norm_num)
          refine queries_cast ?_ _ _
          exact queries1_eq hq (by norm_num)
        refine first512 ?v ?s
        case v => exact values512 hv _ (by norm_num)
        case s =>
          refine scores_off (B := 1536) (w := 256) hk ?_ _ (by norm_num) (by norm_num) (by norm_num)
          refine queries_cast ?_ _ _
          exact queries1_eq hq (by norm_num)
      case s0 =>
        refine next256 (o := 1536) (Q0 := 1536 + 0) (by norm_num) ?v ?s ?_
        case v => exact values256 hv _ (by norm_num)
        case s =>
          refine scores_diag256 hk ?_ (by norm_num)
          intro d r
          refine queries_read ?_ (by norm_num) _ _ _
          exact queries1_eq hq (by norm_num)
        refine next512 (o := 1024) (Q0 := 1536 + 0) (by norm_num) ?v ?s ?_
        case v => exact values512 hv _ (by norm_num)
        case s =>
          refine scores_off (B := 1536) (w := 0) hk ?_ _ (by norm_num) (by norm_num) (by norm_num)
          refine queries_cast ?_ _ _
          exact queries1_eq hq (by norm_num)
        refine next512 (o := 512) (Q0 := 1536 + 0) (by norm_num) ?v ?s ?_
        case v => exact values512 hv _ (by norm_num)
        case s =>
          refine scores_off (B := 1536) (w := 0) hk ?_ _ (by norm_num) (by norm_num) (by norm_num)
          refine queries_cast ?_ _ _
          exact queries1_eq hq (by norm_num)
        refine first512 ?v ?s
        case v => exact values512 hv _ (by norm_num)
        case s =>
          refine scores_off (B := 1536) (w := 0) hk ?_ _ (by norm_num) (by norm_num) (by norm_num)
          refine queries_cast ?_ _ _
          exact queries1_eq hq (by norm_num)
  case h2 =>
    intro x
    refine finish_eq hlam ?c1 ?c2 G hG x (by norm_num)
    case c1 =>
      refine join (M0 := ?m200) (M1 := ?m201) (n1 := 1536) (n0 := 1280) ?s1 ?s0 (by norm_num) (by norm_num) _
      case s1 =>
        refine next512 (o := 1024) (Q0 := 1024 + 256) (by norm_num) ?v ?s ?_
        case v => exact values512 hv _ (by norm_num)
        case s =>
          refine scores_diag512 hk ?_ (by norm_num)
          intro d r
          refine queries_read ?_ (by norm_num) _ _ _
          exact queries0_eq hq (by norm_num)
        refine next512 (o := 512) (Q0 := 1024 + 256) (by norm_num) ?v ?s ?_
        case v => exact values512 hv _ (by norm_num)
        case s =>
          refine scores_off (B := 1024) (w := 256) hk ?_ _ (by norm_num) (by norm_num) (by norm_num)
          refine queries_cast ?_ _ _
          exact queries0_eq hq (by norm_num)
        refine first512 ?v ?s
        case v => exact values512 hv _ (by norm_num)
        case s =>
          refine scores_off (B := 1024) (w := 256) hk ?_ _ (by norm_num) (by norm_num) (by norm_num)
          refine queries_cast ?_ _ _
          exact queries0_eq hq (by norm_num)
      case s0 =>
        refine next256 (o := 1024) (Q0 := 1024 + 0) (by norm_num) ?v ?s ?_
        case v => exact values256 hv _ (by norm_num)
        case s =>
          refine scores_diag256 hk ?_ (by norm_num)
          intro d r
          refine queries_read ?_ (by norm_num) _ _ _
          exact queries0_eq hq (by norm_num)
        refine next512 (o := 512) (Q0 := 1024 + 0) (by norm_num) ?v ?s ?_
        case v => exact values512 hv _ (by norm_num)
        case s =>
          refine scores_off (B := 1024) (w := 0) hk ?_ _ (by norm_num) (by norm_num) (by norm_num)
          refine queries_cast ?_ _ _
          exact queries0_eq hq (by norm_num)
        refine first512 ?v ?s
        case v => exact values512 hv _ (by norm_num)
        case s =>
          refine scores_off (B := 1024) (w := 0) hk ?_ _ (by norm_num) (by norm_num) (by norm_num)
          refine queries_cast ?_ _ _
          exact queries0_eq hq (by norm_num)
    case c2 =>
      refine join (M0 := ?m210) (M1 := ?m211) (n1 := 1536) (n0 := 1280) ?s1 ?s0 (by norm_num) (by norm_num) _
      case s1 =>
        refine next512 (o := 1024) (Q0 := 1024 + 256) (by norm_num) ?v ?s ?_
        case v => exact values512 hv _ (by norm_num)
        case s =>
          refine scores_diag512 hk ?_ (by norm_num)
          intro d r
          refine queries_read ?_ (by norm_num) _ _ _
          exact queries1_eq hq (by norm_num)
        refine next512 (o := 512) (Q0 := 1024 + 256) (by norm_num) ?v ?s ?_
        case v => exact values512 hv _ (by norm_num)
        case s =>
          refine scores_off (B := 1024) (w := 256) hk ?_ _ (by norm_num) (by norm_num) (by norm_num)
          refine queries_cast ?_ _ _
          exact queries1_eq hq (by norm_num)
        refine first512 ?v ?s
        case v => exact values512 hv _ (by norm_num)
        case s =>
          refine scores_off (B := 1024) (w := 256) hk ?_ _ (by norm_num) (by norm_num) (by norm_num)
          refine queries_cast ?_ _ _
          exact queries1_eq hq (by norm_num)
      case s0 =>
        refine next256 (o := 1024) (Q0 := 1024 + 0) (by norm_num) ?v ?s ?_
        case v => exact values256 hv _ (by norm_num)
        case s =>
          refine scores_diag256 hk ?_ (by norm_num)
          intro d r
          refine queries_read ?_ (by norm_num) _ _ _
          exact queries1_eq hq (by norm_num)
        refine next512 (o := 512) (Q0 := 1024 + 0) (by norm_num) ?v ?s ?_
        case v => exact values512 hv _ (by norm_num)
        case s =>
          refine scores_off (B := 1024) (w := 0) hk ?_ _ (by norm_num) (by norm_num) (by norm_num)
          refine queries_cast ?_ _ _
          exact queries1_eq hq (by norm_num)
        refine first512 ?v ?s
        case v => exact values512 hv _ (by norm_num)
        case s =>
          refine scores_off (B := 1024) (w := 0) hk ?_ _ (by norm_num) (by norm_num) (by norm_num)
          refine queries_cast ?_ _ _
          exact queries1_eq hq (by norm_num)
  case h1 =>
    intro x
    refine finish_eq hlam ?c1 ?c2 G hG x (by norm_num)
    case c1 =>
      refine join (M0 := ?m100) (M1 := ?m101) (n1 := 1024) (n0 := 768) ?s1 ?s0 (by norm_num) (by norm_num) _
      case s1 =>
        refine next512 (o := 512) (Q0 := 512 + 256) (by norm_num) ?v ?s ?_
        case v => exact values512 hv _ (by norm_num)
        case s =>
          refine scores_diag512 hk ?_ (by norm_num)
          intro d r
          refine queries_read ?_ (by norm_num) _ _ _
          exact queries0_eq hq (by norm_num)
        refine first512 ?v ?s
        case v => exact values512 hv _ (by norm_num)
        case s =>
          refine scores_off (B := 512) (w := 256) hk ?_ _ (by norm_num) (by norm_num) (by norm_num)
          refine queries_cast ?_ _ _
          exact queries0_eq hq (by norm_num)
      case s0 =>
        refine next256 (o := 512) (Q0 := 512 + 0) (by norm_num) ?v ?s ?_
        case v => exact values256 hv _ (by norm_num)
        case s =>
          refine scores_diag256 hk ?_ (by norm_num)
          intro d r
          refine queries_read ?_ (by norm_num) _ _ _
          exact queries0_eq hq (by norm_num)
        refine first512 ?v ?s
        case v => exact values512 hv _ (by norm_num)
        case s =>
          refine scores_off (B := 512) (w := 0) hk ?_ _ (by norm_num) (by norm_num) (by norm_num)
          refine queries_cast ?_ _ _
          exact queries0_eq hq (by norm_num)
    case c2 =>
      refine join (M0 := ?m110) (M1 := ?m111) (n1 := 1024) (n0 := 768) ?s1 ?s0 (by norm_num) (by norm_num) _
      case s1 =>
        refine next512 (o := 512) (Q0 := 512 + 256) (by norm_num) ?v ?s ?_
        case v => exact values512 hv _ (by norm_num)
        case s =>
          refine scores_diag512 hk ?_ (by norm_num)
          intro d r
          refine queries_read ?_ (by norm_num) _ _ _
          exact queries1_eq hq (by norm_num)
        refine first512 ?v ?s
        case v => exact values512 hv _ (by norm_num)
        case s =>
          refine scores_off (B := 512) (w := 256) hk ?_ _ (by norm_num) (by norm_num) (by norm_num)
          refine queries_cast ?_ _ _
          exact queries1_eq hq (by norm_num)
      case s0 =>
        refine next256 (o := 512) (Q0 := 512 + 0) (by norm_num) ?v ?s ?_
        case v => exact values256 hv _ (by norm_num)
        case s =>
          refine scores_diag256 hk ?_ (by norm_num)
          intro d r
          refine queries_read ?_ (by norm_num) _ _ _
          exact queries1_eq hq (by norm_num)
        refine first512 ?v ?s
        case v => exact values512 hv _ (by norm_num)
        case s =>
          refine scores_off (B := 512) (w := 0) hk ?_ _ (by norm_num) (by norm_num) (by norm_num)
          refine queries_cast ?_ _ _
          exact queries1_eq hq (by norm_num)
  case h0 =>
    intro x
    refine finish_eq hlam ?c1 ?c2 G hG x (by norm_num)
    case c1 =>
      refine join (M0 := ?m000) (M1 := ?m001) (n1 := 512) (n0 := 256) ?s1 ?s0 (by norm_num) (by norm_num) _
      case s1 =>
        refine first512 ?v ?s
        case v => exact values512 hv _ (by norm_num)
        case s =>
          refine scores_diag512 hk ?_ (by norm_num)
          intro d r
          refine queries_read ?_ (by norm_num) _ _ _
          exact queries0_eq hq (by norm_num)
      case s0 =>
        refine first256 ?v ?s
        case v => exact values256 hv _ (by norm_num)
        case s =>
          refine scores_diag256 hk ?_ (by norm_num)
          intro d r
          refine queries_read ?_ (by norm_num) _ _ _
          exact queries0_eq hq (by norm_num)
    case c2 =>
      refine join (M0 := ?m010) (M1 := ?m011) (n1 := 512) (n0 := 256) ?s1 ?s0 (by norm_num) (by norm_num) _
      case s1 =>
        refine first512 ?v ?s
        case v => exact values512 hv _ (by norm_num)
        case s =>
          refine scores_diag512 hk ?_ (by norm_num)
          intro d r
          refine queries_read ?_ (by norm_num) _ _ _
          exact queries1_eq hq (by norm_num)
      case s0 =>
        refine first256 ?v ?s
        case v => exact values256 hv _ (by norm_num)
        case s =>
          refine scores_diag256 hk ?_ (by norm_num)
          intro d r
          refine queries_read ?_ (by norm_num) _ _ _
          exact queries1_eq hq (by norm_num)
  case hy => exact rows_cover y

end Cert.Kernel3Ideal.Attn

end
-- ==== Proof.AttnArray.lean ====
/- What the attention call's result array holds after the run. -/
module

public import proofs.«01_k».proof.Proof.AttnRun

@[expose] public section

set_option maxRecDepth 16384

noncomputable section

namespace Cert.Kernel3Ideal.Attn

open Cert.Kernel3Ideal Cert.Kernel3Ideal.Gen Cert.Soft Idealize.ShloMosaic Idealize.ShloMosaic.TcCoe Idealize.SL.Sem
open Idealize.ShloMosaic.Pipeline (Dat)

variable (m : (ℓ : Loc nD τ sig) → Buf (Elt Ideal) ℓ)

/-- The rows of batch row `b` and head `h` of an array of finite entries, times a number. -/
def rowsOf (x : FVec Ideal S4x4096x1024 .f32) (s : ℝ) (b : Fin 4) (h : Fin 8) (r : ℕ) (d : Fin 128) : ℝ :=
  if hr : r < 4096 then (x (ix3 b ⟨r, hr⟩ ⟨128 * h.val + d.val, by omega⟩)).toReal * s else 0

/-- The result array, entry by entry, over the argument arrays. -/
def result (x0 : FVec Ideal S8x128 .f32) (x1 : FVec Ideal S1x128 .f32) (x2 x3 x4 : FVec Ideal S4x4096x1024 .f32) :
    FVec Ideal S4x4096x1024 .bf16 := fun i =>
  head (x0 (ix2 0 0)).toReal (rowsOf x2 qscale (i 0) ⟨(i 2).val / 128, by have : (i 2).val < 1024 := (i 2).isLt; omega⟩)
    (rowsOf x3 1 (i 0) ⟨(i 2).val / 128, by have : (i 2).val < 1024 := (i 2).isLt; omega⟩)
    (rowsOf x4 1 (i 0) ⟨(i 2).val / 128, by have : (i 2).val < 1024 := (i 2).isLt; omega⟩)
    (fun e => x1 (ix2 0 e)) (i 1).val ⟨(i 2).val % 128, Nat.mod_lt _ (by norm_num)⟩

/-- Every entry of an array is a real number. -/
def Finite {s : Shape} {φ : FTy} (x : FVec Ideal s φ) : Prop := ∀ i, x i = ((x i : EReal).toReal : EReal)

/-- The block of every window at a grid point: the batch row and the head. -/
theorem idx : ∀ t : Fin cfg0.N, win0_0.index t = ![0, 0] ∧ win0_1.index t = ![0, 0] ∧
    win0_2.index t = ![t.val / 8, 0, t.val % 8] ∧ win0_3.index t = ![t.val / 8, 0, t.val % 8] ∧
    win0_4.index t = ![t.val / 8, 0, t.val % 8] ∧ win0_5.index t = ![t.val / 8, 0, t.val % 8] :=
  (by decide +kernel : ∀ t : Fin grid0.N, _)

section Reads

variable (c : Dev nD) (t : Fin cfg0.N)

/-- The batch row of a grid point. -/
def batch (t : Fin cfg0.N) : Fin 4 := ⟨t.val / 8, by have : t.val < 32 := t.isLt; omega⟩

/-- The head of a grid point. -/
def headOf (t : Fin cfg0.N) : Fin 8 := ⟨t.val % 8, by omega⟩

theorem read0 : iblk m c 0 t (ix2 0 0) = m ((c : Thread nD τ).loc main_arg0) (ix2 0 0) := by
  blk_point [iblk, V, idx t]

theorem read1 (e : Fin 128) : iblk m c 1 t (ix2 0 e) = m ((c : Thread nD τ).loc main_arg1) (ix2 0 e) := by
  blk_point [iblk, V, idx t]

theorem read2 (r : Fin 4096) (d : Fin 128) : iblk m c 2 t (ix3 0 r d)
    = m ((c : Thread nD τ).loc main_arg2) (ix3 (batch t) r ⟨128 * (headOf t).val + d.val, by omega⟩) := by
  blk_point [iblk, V, idx t, batch, headOf]

theorem read3 (r : Fin 4096) (d : Fin 128) : iblk m c 3 t (ix3 0 r d)
    = m ((c : Thread nD τ).loc main_arg3) (ix3 (batch t) r ⟨128 * (headOf t).val + d.val, by omega⟩) := by
  blk_point [iblk, V, idx t, batch, headOf]

theorem read4 (r : Fin 4096) (d : Fin 128) : iblk m c 4 t (ix3 0 r d)
    = m ((c : Thread nD τ).loc main_arg4) (ix3 (batch t) r ⟨128 * (headOf t).val + d.val, by omega⟩) := by
  blk_point [iblk, V, idx t, batch, headOf]

theorem rows2 (h : Finite (s := S4x4096x1024) (φ := .f32) (m ((c : Thread nD τ).loc main_arg2))) :
    ScaledRows (iblk m c 2 t) (rowsOf (m ((c : Thread nD τ).loc main_arg2)) qscale (batch t) (headOf t)) := by
  intro r d
  rw [read2]
  unfold rowsOf
  rw [dif_pos r.isLt, EReal.coe_mul, ← h]

theorem rows3 (h : Finite (s := S4x4096x1024) (φ := .f32) (m ((c : Thread nD τ).loc main_arg3))) :
    Rows (iblk m c 3 t) (rowsOf (m ((c : Thread nD τ).loc main_arg3)) 1 (batch t) (headOf t)) := by
  intro r d
  rw [read3]
  unfold rowsOf
  rw [dif_pos r.isLt, mul_one, ← h]

theorem rows4 (h : Finite (s := S4x4096x1024) (φ := .f32) (m ((c : Thread nD τ).loc main_arg4))) :
    Rows (iblk m c 4 t) (rowsOf (m ((c : Thread nD τ).loc main_arg4)) 1 (batch t) (headOf t)) := by
  intro r d
  rw [read4]
  unfold rowsOf
  rw [dif_pos r.isLt, mul_one, ← h]

end Reads

/-- After the run the result array holds, at every entry, the attention of that row and head. -/
theorem final (c : Dev nD) (h0 : (m ((c : Thread nD τ).loc main_arg0) : FVec Ideal S8x128 .f32) (ix2 0 0)
      = (((m ((c : Thread nD τ).loc main_arg0) : FVec Ideal S8x128 .f32) (ix2 0 0) : EReal).toReal : EReal))
    (h2 : Finite (s := S4x4096x1024) (φ := .f32) (m ((c : Thread nD τ).loc main_arg2)))
    (h3 : Finite (s := S4x4096x1024) (φ := .f32) (m ((c : Thread nD τ).loc main_arg3)))
    (h4 : Finite (s := S4x4096x1024) (φ := .f32) (m ((c : Thread nD τ).loc main_arg4))) :
    (dats m 0 c).arrAt 5 (cfgs 0).N
      = result (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; unfold outsAt0
  have ht : t.val < 32 := t.isLt
  obtain ⟨r, d, rfl⟩ : ∃ (r : Fin 4096) (d : Fin 128), y = ix3 0 r d := by
    refine ⟨y 1, y 2, ?_⟩
    funext a
    fin_cases a
    · exact Subsingleton.elim (α := Fin 1) _ _
    · rfl
    · rfl
  refine (block c _ _ _ _ _ _ _ _ _ _ _ _ _ _ _ _ _ _ _ _ _ _ _ _ _ ((read0 m c t).trans h0) (rows2 m c t h2) (rows3 m c t h3)
    (rows4 m c t h4) (fun i => head ((m ((c : Thread nD τ).loc main_arg0) : FVec Ideal S8x128 .f32) (ix2 0 0) : EReal).toReal
      (rowsOf (m ((c : Thread nD τ).loc main_arg2)) qscale (batch t) (headOf t))
      (rowsOf (m ((c : Thread nD τ).loc main_arg3)) 1 (batch t) (headOf t))
      (rowsOf (m ((c : Thread nD τ).loc main_arg4)) 1 (batch t) (headOf t))
      (fun e => iblk m c 1 t (ix2 0 e)) (i 1).val (i 2)) (fun _ _ => rfl) (ix3 0 r d)).trans ?_
  have e0 : (((View.whole main_v4).slice (win0_5.rect t)).emb (ix3 0 r d))
      = ix3 (batch t) r ⟨128 * (headOf t).val + d.val, by omega⟩ := by blk_ext [idx t, batch, headOf]
  refine Eq.trans ?_ (congrArg (result _ _ _ _ _) e0).symm
  have e1 : (⟨(128 * (headOf t).val + d.val) / 128, by omega⟩ : Fin 8) = headOf t := Fin.ext (by show (128 * (headOf t).val + d.val) / 128 = (headOf t).val; omega)
  have e2 : (⟨(128 * (headOf t).val + d.val) % 128, by omega⟩ : Fin 128) = d := Fin.ext (by show (128 * (headOf t).val + d.val) % 128 = d.val; omega)
  have eg : (fun e : Fin 128 => iblk m c 1 t (ix2 0 e)) = fun e => m ((c : Thread nD τ).loc main_arg1) (ix2 0 e) :=
    funext fun e => read1 m c t e
  change head _ _ _ _ _ r.val d = head _ (rowsOf _ _ (batch t) ⟨(128 * (headOf t).val + d.val) / 128, _⟩)
    (rowsOf _ _ (batch t) ⟨(128 * (headOf t).val + d.val) / 128, _⟩)
    (rowsOf _ _ (batch t) ⟨(128 * (headOf t).val + d.val) / 128, _⟩) _ r.val ⟨(128 * (headOf t).val + d.val) % 128, _⟩
  rw [e1, e2, eg]

end Cert.Kernel3Ideal.Attn

end
-- ==== Proof.AttnSoftmax.lean ====
/- A causal softmax over all keys at once, as plain functions of one query's scores. -/
module

public import proofs.«01_k».proof.Proof.AttnSpec

@[expose] public section

noncomputable section

namespace Cert.Soft

open Idealize.ShloMosaic

/-- A sum over all keys that skips those after the query. -/
theorem sum_upto {n Q : ℕ} (hQ : Q < n) (f : ℕ → ℝ) :
    ∑ k : Fin n, (if k.val ≤ Q then f k.val else 0) = ∑ k ∈ Finset.range (Q + 1), f k := by
  rw [Fin.sum_univ_eq_sum_range (fun k => if k ≤ Q then f k else 0) n, ← Finset.sum_filter]
  exact Finset.sum_congr (keys_eq hQ) fun _ _ => rfl

/-- The weight of a key: its shifted exponential over the sum of all of them, zero after the query. -/
def weight (s : ℕ → ℝ) (Q : ℕ) (μ : ℝ) (k : ℕ) : ℝ :=
  if k ≤ Q then Real.exp (s k - μ) / ∑ j ∈ Finset.range (Q + 1), Real.exp (s j - μ) else 0

/-- The exponential of a shifted score, which is zero for a key after the query. -/
theorem Scores.exp {s : ℕ → ℝ} {Q n : ℕ} {S : Fin n → EReal} (h : Scores s Q 0 S) (μ : ℝ) (k : Fin n) :
    Ideal.exp (S k - (μ : EReal)) = ((if k.val ≤ Q then Real.exp (s k.val - μ) else 0 : ℝ) : EReal) := by
  rw [h k, Nat.zero_add]
  split
  · rw [← EReal.coe_sub, Ideal.exp_coe]
  · rw [EReal.bot_sub, Ideal.exp_bot]; rfl

/-- The quotient of a shifted exponential by their sum is the weight. -/
theorem Scores.weight {s : ℕ → ℝ} {Q n : ℕ} {S : Fin n → EReal} (h : Scores s Q 0 S) (hQ : Q < n) (μ : ℝ) (k : Fin n) :
    Ideal.div (Ideal.exp (S k - (μ : EReal))) (∑ j, Ideal.exp (S j - (μ : EReal))) = (Soft.weight s Q μ k.val : EReal) := by
  have e : ∑ j, Ideal.exp (S j - (μ : EReal)) = ((∑ j ∈ Finset.range (Q + 1), Real.exp (s j - μ) : ℝ) : EReal) := by
    rw [← sum_upto hQ, coe_sum]
    exact Finset.sum_congr rfl fun j _ => h.exp μ j
  have hp := weight_pos s Q μ
  rw [e, h.exp, Ideal.div, if_neg (by exact_mod_cast hp.ne'), ← EReal.coe_inv, ← EReal.coe_mul]
  unfold Soft.weight
  congr 1
  split
  · rw [div_eq_mul_inv]
  · rw [zero_mul]

/-- The values weighted by the weights add up to the mean. -/
theorem weight_mean (s v : ℕ → ℝ) {Q n : ℕ} (hQ : Q < n) (μ : ℝ) :
    ∑ k : Fin n, v k.val * weight s Q μ k.val = mean s v Q := by
  rw [← mean_shift s v Q μ, Finset.sum_div, ← sum_upto hQ]
  refine Finset.sum_congr rfl fun k _ => ?_
  unfold weight
  split <;> ring

end Cert.Soft

end
-- ==== Proof.AttnScores.lean ====
/- The attention reference's masked scores and their softmax, entry by entry. -/
module

public import proofs.«01_k».proof.Proof.AttnArray
public import proofs.«01_k».proof.Proof.AttnSoftmax
public import proofs.«01_k».proof.Proof.Gen.Reference3Ideal.Read

@[expose] public section

set_option maxRecDepth 16384

noncomputable section

namespace Cert.Reference3Ideal.Attn

open Cert.Reference3Ideal Cert.Reference3Ideal.Gen Cert.Reference3Ideal.Read Cert.Soft Idealize.ShloMosaic
open Cert.Kernel3Ideal.Attn (rowsOf Finite score half qscale)
open scoped BigOperators

variable (x2 x3 : FVec Ideal S4x4096x1024 .f32) (b : Fin 4) (h : Fin 8) (c : Fin 2) (r k : Fin 4096)

/-- A query's coordinate in one head and map. -/
theorem query (e : Fin 64) : val_main_v0 (F := Ideal) x2 (ix5 b r h c e)
    = x2 (ix3 b r ⟨128 * h.val + (64 * c.val + e.val), by omega⟩) := by
  rw [val_main_v0_apply]
  refine congrArg x2 (funext fun a => ?_)
  have := b.isLt; have := r.isLt; have := h.isLt; have := c.isLt; have := e.isLt
  fin_cases a
  · refine Fin.ext ?_
    show ((((b.val * 4096 + r.val) * 8 + h.val) * 2 + c.val) * 64 + e.val) / 4194304 = b.val
    omega
  · refine Fin.ext ?_
    show ((((b.val * 4096 + r.val) * 8 + h.val) * 2 + c.val) * 64 + e.val) / 1024 % 4096 = r.val
    omega
  · refine Fin.ext ?_
    show ((((b.val * 4096 + r.val) * 8 + h.val) * 2 + c.val) * 64 + e.val) % 1024 = 128 * h.val + (64 * c.val + e.val)
    omega

/-- A key's coordinate in one head and map. -/
theorem key (e : Fin 64) : val_main_v1 (F := Ideal) x3 (ix5 b r h c e)
    = x3 (ix3 b r ⟨128 * h.val + (64 * c.val + e.val), by omega⟩) := query x3 b h c r e

/-- Summing over a row with all but one map's columns at zero is summing over that map's columns. -/
theorem sum_half (f g : Fin 128 → ℝ) : ∑ d : Fin 128, f d * (if d.val / 64 = c.val then g d else 0)
    = ∑ e : Fin 64, f ⟨64 * c.val + e.val, by omega⟩ * g ⟨64 * c.val + e.val, by omega⟩ := by
  have e := Fin.sum_univ_add (a := 64) (b := 64) (fun d : Fin 128 => f d * (if d.val / 64 = c.val then g d else 0))
  refine e.trans ?_
  fin_cases c
  · rw [Finset.sum_eq_zero (s := Finset.univ) (f := fun i : Fin 64 => f (Fin.natAdd 64 i) * _), add_zero]
    · refine Finset.sum_congr rfl fun i _ => ?_
      have hi : (Fin.castAdd 64 i).val / 64 = 0 := by have := i.isLt; rw [Fin.val_castAdd]; omega
      rw [if_pos hi]
      congr 2 <;> exact Fin.ext (by simp)
    · intro i _
      have hi : ¬ (Fin.natAdd 64 i).val / 64 = 0 := by have := i.isLt; rw [Fin.val_natAdd]; omega
      rw [if_neg hi, mul_zero]
  · rw [Finset.sum_eq_zero (s := Finset.univ) (f := fun i : Fin 64 => f (Fin.castAdd 64 i) * _), zero_add]
    · refine Finset.sum_congr rfl fun i _ => ?_
      have hi : (Fin.natAdd 64 i).val / 64 = 1 := by have := i.isLt; rw [Fin.val_natAdd]; omega
      rw [if_pos hi]
      congr 2 <;> exact Fin.ext (by simp)
    · intro i _
      have hi : ¬ (Fin.castAdd 64 i).val / 64 = 1 := by have := i.isLt; rw [Fin.val_castAdd]; omega
      rw [if_neg hi, mul_zero]

/-- A query's score with a key in base `e`: the score in base two times the logarithm of two. -/
abbrev logits (j : ℕ) : ℝ := score c.val (rowsOf x2 qscale b h) (rowsOf x3 1 b h) r.val j * Real.log 2

theorem word_eighth : Ideal.ofBits .f32 0x3E000000#32 = ((1 / 8 : ℝ) : EReal) := by
  simp [Ideal.ofBits, Ideal.ieee, -EReal.coe_mul]; norm_num

theorem word_bot : Ideal.ofBits .f32 0xFF800000#32 = ⊥ := by
  simp [Ideal.ofBits, Ideal.ieee]

variable {x2 x3} (h2 : Finite x2) (h3 : Finite x3)

include h2 h3 in
/-- The scaled score of a query with a key. -/
theorem scaled : val_main_v12 (F := Ideal) x2 x3 (ix5 b h c r k) = (logits x2 x3 b h c r k.val : EReal) := by
  rw [val_main_v12_apply, val_main_v10_apply, val_main_v11_apply, val_main_cst_apply]
  have e : ∀ e : Fin 64, val_main_v0 (F := Ideal) x2 (lidx_main_v10 (ix5 b h c r k) e)
        * val_main_v1 (F := Ideal) x3 (ridx_main_v10 (ix5 b h c r k) e)
      = (((x2 (ix3 b r ⟨128 * h.val + (64 * c.val + e.val), by omega⟩)).toReal
        * (x3 (ix3 b k ⟨128 * h.val + (64 * c.val + e.val), by omega⟩)).toReal : ℝ) : EReal) := fun e => by
    rw [EReal.coe_mul, ← h2, ← h3]
    exact congrArg₂ (· * ·) (query x2 b h c r e) (key x3 b h c k e)
  rw [Finset.sum_congr rfl fun e' _ => e e', ← coe_sum]
  refine (congrArg₂ (· * ·) rfl word_eighth).trans ?_
  rw [← EReal.coe_mul]
  congr 1
  unfold logits score half
  rw [sum_half, Finset.sum_mul, Finset.sum_mul]
  refine Finset.sum_congr rfl fun e _ => ?_
  unfold rowsOf
  rw [dif_pos r.isLt, dif_pos k.isLt]
  have hl : Real.log 2 ≠ 0 := (Real.log_pos one_lt_two).ne'
  unfold qscale
  field_simp

/-- Which keys a query may see. -/
theorem mask : val_main_call0_v1 (F := Ideal) (ix5 b h c r k)
    = IntOp.cmpi .sle (BitVec.ofNat 32 k.val) (BitVec.ofNat 32 r.val) := by
  rw [val_main_call0_v1_apply]
  rfl

include h2 h3 in
/-- A query's masked scores. -/
theorem scores : Scores (logits x2 x3 b h c r) r.val 0
    (fun k : Fin 4096 => val_main_v14 (F := Ideal) x2 x3 (ix5 b h c r k)) := by
  intro k
  beta_reduce
  rw [val_main_v14_apply, mask, scaled b h c r k h2 h3, Nat.zero_add]
  have e : val_main_call0_v2 (F := Ideal) (ix5 b h c r k) = ⊥ := by
    rw [val_main_call0_v2_apply]
    exact word_bot
  rw [e]
  simp only [IntOp.cmpi, Cert.Kernel3Ideal.Attn.sle_small k.val r.val (by omega) (by omega), Scalar.select]
  by_cases hk : k.val ≤ r.val <;> simp [hk]

/-- The greatest masked score of a query. -/
theorem top : val_main_v15 (F := Ideal) x2 x3 (ix4 b h c r)
    = Finset.univ.fold max ⊥ (fun k : Fin 4096 => val_main_v14 (F := Ideal) x2 x3 (ix5 b h c r k)) := by
  rw [← word_bot]
  unfold val_main_v15
  generalize val_main_v14 (F := Ideal) x2 x3 = y
  pointwise [val_main_cst_1]

/-- The bound a greatest score is compared with. -/
theorem below (i : S4x8x2x4096.Idx) : val_main_v16 (F := Ideal) i = ⊥ := by
  rw [val_main_v16_apply]
  exact word_bot

/-- The start of a sum. -/
theorem nothing (i : S_.Idx) : val_main_cst_3 (F := Ideal) i = (0 : EReal) := by
  rw [val_main_cst_3_apply]
  exact Ideal.ofBits_zero .f32

include h2 h3 in
/-- The softmax of a query's scores, with some real shift. -/
theorem weights : ∃ μ : ℝ, ∀ k : Fin 4096, val_main_v25 (F := Ideal) x2 x3 (ix5 b h c r k)
    = (weight (logits x2 x3 b h c r) r.val μ k.val : EReal) := by
  have hs := scores b h c r h2 h3
  obtain ⟨μ, hμ⟩ := hs.max_real (by norm_num) (Nat.zero_le _)
  have h19 : ∀ k : Fin 4096, val_main_v19 (F := Ideal) x2 x3 (ix5 b h c r k) = (μ : EReal) := fun k => by
    rw [val_main_v19_apply, val_main_v18_apply, val_main_v17_apply, below]
    have hi : idx_main_v18 (idx_main_v19 (ix5 b h c r k)) = ix4 b h c r := by funext a; fin_cases a <;> rfl
    rw [hi, top, hμ]
    exact max_eq_right bot_le
  have h21 : ∀ k : Fin 4096, val_main_v21 (F := Ideal) x2 x3 (ix5 b h c r k)
      = Ideal.exp (val_main_v14 (F := Ideal) x2 x3 (ix5 b h c r k) - (μ : EReal)) := fun k => by
    rw [val_main_v21_apply, val_main_v20_apply, h19]
    generalize val_main_v14 (F := Ideal) x2 x3 (ix5 b h c r k) = y
    rfl
  have h24 : ∀ k : Fin 4096, val_main_v24 (F := Ideal) x2 x3 (ix5 b h c r k)
      = ∑ j : Fin 4096, Ideal.exp (val_main_v14 (F := Ideal) x2 x3 (ix5 b h c r j) - (μ : EReal)) := fun k => by
    rw [val_main_v24_apply, val_main_v23_apply, val_main_v22_apply, nothing, zero_add]
    refine Finset.sum_congr rfl fun j _ => ?_
    have hi : idx_main_v22 (idx_main_v23 (idx_main_v24 (ix5 b h c r k))) j = ix5 b h c r j := by
      funext a; fin_cases a <;> rfl
    rw [hi, h21]
  refine ⟨μ, fun k => ?_⟩
  rw [val_main_v25_apply, h21, h24]
  refine Eq.trans ?_ (hs.weight r.isLt μ k)
  generalize val_main_v14 (F := Ideal) x2 x3 = y
  rfl

end Cert.Reference3Ideal.Attn

end
-- ==== Proof.AttnRef.lean ====
/- The attention's reference, entry by entry: the difference of two softmax means, normalised. -/
module

public import proofs.«01_k».proof.Proof.AttnScores

@[expose] public section

set_option maxRecDepth 16384

noncomputable section

namespace Cert.Reference3Ideal.Attn

open Cert.Reference3Ideal Cert.Reference3Ideal.Gen Cert.Reference3Ideal.Read Cert.Soft Idealize.ShloMosaic
open Cert.Kernel3Ideal.Attn (rowsOf Finite score half qscale diff attend head result)
open scoped BigOperators

section Lines
variable (x0 : FVec Ideal S8x128 .f32) (x1 : FVec Ideal S1x128 .f32) (x2 x3 x4 : FVec Ideal S4x4096x1024 .f32)
variable (b : Fin 4) (h : Fin 8) (r k : Fin 4096) (d : Fin 128)

/-- The factor of the second map. -/
theorem factor (i : S_.Idx) : val_main_v29 (F := Ideal) x0 i = x0 (ix2 0 0) := by
  pointwise [val_main_v28, val_main_v29]

/-- The first map's weights. -/
theorem first : val_main_v27 (F := Ideal) x2 x3 (ix4 b h r k) = val_main_v25 (F := Ideal) x2 x3 (ix5 b h 0 r k) := by
  rw [val_main_v27_apply, val_main_v26_apply]
  refine congrArg (val_main_v25 (F := Ideal) x2 x3) (funext fun a => ?_)
  have := b.isLt; have := h.isLt; have := r.isLt; have := k.isLt
  fin_cases a
  · refine Fin.ext ?_
    show (((b.val * 8 + h.val) * 4096 + r.val) * 4096 + k.val) / 134217728 = b.val
    omega
  · refine Fin.ext ?_
    show (((b.val * 8 + h.val) * 4096 + r.val) * 4096 + k.val) / 16777216 % 8 = h.val
    omega
  · rfl
  · refine Fin.ext ?_
    show (((b.val * 8 + h.val) * 4096 + r.val) * 4096 + k.val) / 4096 % 4096 = r.val
    omega
  · refine Fin.ext ?_
    show (((b.val * 8 + h.val) * 4096 + r.val) * 4096 + k.val) % 4096 = k.val
    omega

/-- The second map's weights. -/
theorem second : val_main_v31 (F := Ideal) x2 x3 (ix4 b h r k) = val_main_v25 (F := Ideal) x2 x3 (ix5 b h 1 r k) := by
  rw [val_main_v31_apply, val_main_v30_apply]
  refine congrArg (val_main_v25 (F := Ideal) x2 x3) (funext fun a => ?_)
  have := b.isLt; have := h.isLt; have := r.isLt; have := k.isLt
  fin_cases a
  · refine Fin.ext ?_
    show (((b.val * 8 + h.val) * 4096 + r.val) * 4096 + k.val) / 134217728 = b.val
    omega
  · refine Fin.ext ?_
    show (((b.val * 8 + h.val) * 4096 + r.val) * 4096 + k.val) / 16777216 % 8 = h.val
    omega
  · rfl
  · refine Fin.ext ?_
    show (((b.val * 8 + h.val) * 4096 + r.val) * 4096 + k.val) / 4096 % 4096 = r.val
    omega
  · refine Fin.ext ?_
    show (((b.val * 8 + h.val) * 4096 + r.val) * 4096 + k.val) % 4096 = k.val
    omega

/-- The difference of the two maps' weights. -/
theorem differ : val_main_v34 (F := Ideal) x0 x2 x3 (ix4 b h r k)
    = (val_main_v25 (F := Ideal) x2 x3 (ix5 b h 0 r k) : EReal)
      - (x0 (ix2 0 0) : EReal) * (val_main_v25 (F := Ideal) x2 x3 (ix5 b h 1 r k) : EReal) := by
  rw [val_main_v34_apply, val_main_v33_apply, val_main_v32_apply, factor, first, second]
  generalize val_main_v25 (F := Ideal) x2 x3 = y
  rfl

/-- A value's coordinate in one head. -/
theorem value_at : val_main_v2 (F := Ideal) x4 (ix4 b k h d) = x4 (ix3 b k ⟨128 * h.val + d.val, by omega⟩) := by
  rw [val_main_v2_apply]
  refine congrArg x4 (funext fun a => ?_)
  have := b.isLt; have := k.isLt; have := h.isLt; have := d.isLt
  fin_cases a
  · refine Fin.ext ?_
    show (((b.val * 4096 + k.val) * 8 + h.val) * 128 + d.val) / 4194304 = b.val
    omega
  · refine Fin.ext ?_
    show (((b.val * 4096 + k.val) * 8 + h.val) * 128 + d.val) / 1024 % 4096 = k.val
    omega
  · refine Fin.ext ?_
    show (((b.val * 4096 + k.val) * 8 + h.val) * 128 + d.val) % 1024 = 128 * h.val + d.val
    omega

/-- The weighted sum of the values. -/
theorem weighted : val_main_v36 (F := Ideal) x0 x2 x3 x4 (ix4 b r h d)
    = ∑ k : Fin 4096, (x4 (ix3 b k ⟨128 * h.val + d.val, by omega⟩) : EReal)
        * (val_main_v34 (F := Ideal) x0 x2 x3 (ix4 b h r k) : EReal) := by
  rw [val_main_v36_apply, val_main_v35_apply]
  refine Finset.sum_congr rfl fun k _ => ?_
  have hl : lidx_main_v35 (idx_main_v36 (ix4 b r h d)) k = ix4 b k h d := by funext a; fin_cases a <;> rfl
  have hr : ridx_main_v35 (idx_main_v36 (ix4 b r h d)) k = ix4 b h r k := by funext a; fin_cases a <;> rfl
  rw [hl, hr, value_at]

/-- The start of a sum of squares. -/
theorem nothing4 (i : S_.Idx) : val_main_cst_4 (F := Ideal) i = (0 : EReal) := by
  rw [val_main_cst_4_apply]
  exact Ideal.ofBits_zero .f32

/-- The sum of a head's squares. -/
theorem squares : val_main_v39 (F := Ideal) x0 x2 x3 x4 (ix3 b r h)
    = ∑ e : Fin 128, (val_main_v36 (F := Ideal) x0 x2 x3 x4 (ix4 b r h e) : EReal)
        * (val_main_v36 (F := Ideal) x0 x2 x3 x4 (ix4 b r h e) : EReal) := by
  rw [val_main_v39_apply, nothing4, zero_add]
  refine Finset.sum_congr rfl fun e _ => ?_
  have hi : idx_main_v39 (ix3 b r h) e = ix4 b r h e := by funext a; fin_cases a <;> rfl
  rw [hi, val_main_v38_apply]
  rfl

/-- The inverse root mean square of a head. -/
theorem inverse : val_main_v46 (F := Ideal) x0 x2 x3 x4 (ix4 b r h d)
    = Ideal.rsqrt (Ideal.div (∑ e : Fin 128, (val_main_v36 (F := Ideal) x0 x2 x3 x4 (ix4 b r h e) : EReal)
        * (val_main_v36 (F := Ideal) x0 x2 x3 x4 (ix4 b r h e) : EReal)) (Ideal.ofBits .f32 0x43000000#32)
          + Ideal.ofBits .f32 0x3727C5AC#32) := by
  rw [val_main_v46_apply, val_main_v45_apply, val_main_v44_apply, val_main_v42_apply, val_main_v40_apply,
    val_main_v41_apply, val_main_v43_apply, ← squares]
  have hi : idx_main_v40 (idx_main_v46 (ix4 b r h d)) = ix3 b r h := by funext a; fin_cases a <;> rfl
  rw [hi]
  generalize val_main_v39 (F := Ideal) x0 x2 x3 x4 (ix3 b r h) = y
  rfl

/-- The gain of a column. -/
theorem gain : val_main_v49 (F := Ideal) x1 (ix4 b r h d) = x1 (ix2 0 d) := by
  rw [val_main_v49_apply, val_main_v48_apply, val_main_v37_apply]
  refine congrArg x1 (funext fun a => ?_)
  fin_cases a
  · rfl
  · exact Fin.ext (Nat.mod_eq_of_lt d.isLt)

/-- One entry of the normalised heads. -/
theorem entry : val_main_v52 (F := Ideal) x0 x1 x2 x3 x4 (ix4 b r h d)
    = (((val_main_v36 (F := Ideal) x0 x2 x3 x4 (ix4 b r h d) : EReal)
        * (val_main_v46 (F := Ideal) x0 x2 x3 x4 (ix4 b r h d) : EReal)) * (x1 (ix2 0 d) : EReal))
      * Ideal.ofBits .f32 0x3F4CCCCD#32 := by
  rw [val_main_v52_apply, val_main_v50_apply, val_main_v47_apply, gain, val_main_v51_apply]
  generalize val_main_v36 (F := Ideal) x0 x2 x3 x4 (ix4 b r h d) = y
  generalize val_main_v46 (F := Ideal) x0 x2 x3 x4 (ix4 b r h d) = z
  rfl

end Lines

variable {x0 : FVec Ideal S8x128 .f32} (x1 : FVec Ideal S1x128 .f32) {x2 x3 x4 : FVec Ideal S4x4096x1024 .f32}
variable (b : Fin 4) (h : Fin 8) (r : Fin 4096) (d : Fin 128)
variable (h0 : x0 (ix2 0 0) = ((x0 (ix2 0 0) : EReal).toReal : EReal)) (h2 : Finite x2) (h3 : Finite x3) (h4 : Finite x4)

include h0 h2 h3 h4 in
/-- The weighted sum of the values is the difference of the two maps' means. -/
theorem attended : val_main_v36 (F := Ideal) x0 x2 x3 x4 (ix4 b r h d)
    = (diff (x0 (ix2 0 0) : EReal).toReal (rowsOf x2 qscale b h) (rowsOf x3 1 b h) (rowsOf x4 1 b h) r.val d : EReal) := by
  obtain ⟨μ, hμ⟩ := weights b h 0 r h2 h3
  obtain ⟨ν, hν⟩ := weights b h 1 r h2 h3
  rw [weighted]
  have e : ∀ k : Fin 4096, (x4 (ix3 b k ⟨128 * h.val + d.val, by omega⟩) : EReal)
        * (val_main_v34 (F := Ideal) x0 x2 x3 (ix4 b h r k) : EReal)
      = ((rowsOf x4 1 b h k.val d * weight (logits x2 x3 b h 0 r) r.val μ k.val
        - (x0 (ix2 0 0) : EReal).toReal * (rowsOf x4 1 b h k.val d * weight (logits x2 x3 b h 1 r) r.val ν k.val) : ℝ)
          : EReal) := fun k => by
    have hv : (x4 (ix3 b k ⟨128 * h.val + d.val, by omega⟩) : EReal) = (rowsOf x4 1 b h k.val d : EReal) := by
      unfold rowsOf
      rw [dif_pos k.isLt, mul_one]
      exact h4 _
    rw [differ, hμ, hν, h0, hv, ← EReal.coe_mul, ← EReal.coe_sub, ← EReal.coe_mul, EReal.toReal_coe]
    congr 1
    ring
  rw [Finset.sum_congr rfl fun k _ => e k, ← coe_sum, Finset.sum_sub_distrib, ← Finset.mul_sum]
  congr 1
  unfold diff attend
  rw [← weight_mean _ (fun j => rowsOf x4 1 b h j d) r.isLt μ, ← weight_mean _ (fun j => rowsOf x4 1 b h j d) r.isLt ν]
  rfl

include h0 h2 h3 h4 in
/-- One entry of the result, before its rows are put side by side. -/
theorem normal : val_main_v52 (F := Ideal) x0 x1 x2 x3 x4 (ix4 b r h d)
    = head (x0 (ix2 0 0) : EReal).toReal (rowsOf x2 qscale b h) (rowsOf x3 1 b h) (rowsOf x4 1 b h)
        (fun e => x1 (ix2 0 e)) r.val d := by
  rw [entry, inverse, mul_assoc]
  simp only [attended _ _ _ _ h0 h2 h3 h4]
  rfl

include h0 h2 h3 h4 in
/-- The reference's result array. -/
theorem final : val_main_v54 (F := Ideal) x0 x1 x2 x3 x4 = result x0 x1 x2 x3 x4 := by
  funext i
  have hi2 : (i 2).val < 1024 := (i 2).isLt
  have hi : idx_main_v53 i = ix4 (i 0) (i 1) ⟨(i 2).val / 128, by omega⟩ ⟨(i 2).val % 128, Nat.mod_lt _ (by norm_num)⟩ := by
    have hi0 : (i 0).val < 4 := (i 0).isLt
    have hi1 : (i 1).val < 4096 := (i 1).isLt
    funext a
    fin_cases a
    · refine Fin.ext ?_
      show (((i 0).val * 4096 + (i 1).val) * 1024 + (i 2).val) / 4194304 = (i 0).val
      omega
    · refine Fin.ext ?_
      show (((i 0).val * 4096 + (i 1).val) * 1024 + (i 2).val) / 1024 % 4096 = (i 1).val
      omega
    · refine Fin.ext ?_
      show (((i 0).val * 4096 + (i 1).val) * 1024 + (i 2).val) / 128 % 8 = (i 2).val / 128
      omega
    · refine Fin.ext ?_
      show (((i 0).val * 4096 + (i 1).val) * 1024 + (i 2).val) % 128 = (i 2).val % 128
      omega
  rw [val_main_v54_apply, val_main_v53_apply, hi]
  exact normal x1 _ _ _ _ h0 h2 h3 h4

end Cert.Reference3Ideal.Attn

end
-- ==== Proof.AttnPre.lean ====
/- What the attention's precondition says: the factor, the queries, the keys and the values are real numbers. -/
module

public import proofs.«01_k».proof.Proof.AttnRef
public import proofs.«01_k».proof.Pre_finite3

@[expose] public section

set_option maxRecDepth 16384

noncomputable section

namespace Cert.Pre_finite3.Read

open Cert.Pre_finite3 Idealize.ShloMosaic
open Cert.Kernel3Ideal.Attn (Finite)

theorem and_one (a b : BitVec 1) : IntOp.andi a b = 1#1 ↔ a = 1#1 ∧ b = 1#1 := by revert a b; decide

theorem fold_one {ι : Type} [DecidableEq ι] (t : Finset ι) (f : ι → BitVec 1) (v : BitVec 1)
    (h : t.fold IntOp.andi v f = 1#1) (i : ι) (hi : i ∈ t) : f i = 1#1 := by
  induction t using Finset.induction_on with
  | empty => exact absurd hi (Finset.notMem_empty i)
  | insert a t ha ih =>
    rw [Finset.fold_insert ha] at h
    obtain ⟨h1, h2⟩ := (and_one _ _).1 h
    rcases Finset.mem_insert.1 hi with rfl | hi
    · exact h1
    · exact ih h2 hi

theorem fold_univ {ι : Type} [DecidableEq ι] [Fintype ι] (f : ι → BitVec 1) (v : BitVec 1)
    (h : Finset.univ.fold IntOp.andi v f = 1#1) (i : ι) : f i = 1#1 := fold_one Finset.univ f v h i (Finset.mem_univ i)

/-- If all of an array's bits are set, each is. -/
theorem all_one (y : IVec S4x4096x1024 1) (v : IVec S_ 1) (hr : S4x4096x1024.ReducesTo [0, 1, 2] S_) (hn : 0 < S_.numel)
    (i : S_.Idx) (h : Host.reduce IntOp.andi y v hr hn i = 1#1) (j : S4x4096x1024.Idx) : y j = 1#1 := by
  have e : Host.reduce IntOp.andi y v hr hn i = Finset.univ.fold IntOp.andi (v (Shape.Idx.first hn))
      (fun k : Fin 4 × Fin 4096 × Fin 1024 => y (ix3 k.1 k.2.1 k.2.2)) := by
    pointwise []
  rw [e] at h
  have hj := fold_univ (fun k : Fin 4 × Fin 4096 × Fin 1024 => y (ix3 k.1 k.2.1 k.2.2)) _ h
  refine Eq.trans (congrArg y ?_) (hj (j 0, j 1, j 2))
  funext a; fin_cases a <;> rfl

theorem word_top : Ideal.ofBits .f32 0x7F800000#32 = ⊤ := by
  simp [Ideal.ofBits, Ideal.ieee]

/-- A number whose magnitude is below infinity is real. -/
theorem real_of_lt (x : EReal) (h : FloatOps.cmpf (F := Ideal) (φ := .f32) .olt
    (FloatOps.hostAbsf (F := Ideal) (φ := .f32) x) (Ideal.ofBits .f32 0x7F800000#32) = 1#1) : x = (x.toReal : EReal) := by
  rw [word_top] at h
  have h' : FloatOps.hostAbsf (F := Ideal) (φ := .f32) x < ⊤ := by
    by_contra hn
    exact absurd ((congrArg BitVec.ofBool (decide_eq_false hn)).symm.trans h) (by decide)
  induction x using EReal.rec with
  | bot => exact absurd h' (by simp [FloatOps.hostAbsf])
  | coe r => rfl
  | top => exact absurd h' (by simp [FloatOps.hostAbsf])

variable [Facts]

/-- The precondition, read. -/
theorem finite (x0 : FVec Ideal S8x128 .f32) (x1 : FVec Ideal S1x128 .f32) (x2 x3 x4 : FVec Ideal S4x4096x1024 .f32)
    (h : Cert.Pre_finite3.fn (F := Ideal) x0 x1 x2 x3 x4 = fun _ => 1#1) :
    x0 (ix2 0 0) = ((x0 (ix2 0 0) : EReal).toReal : EReal) ∧ Finite x2 ∧ Finite x3 ∧ Finite x4 := by
  have h := congrFun h (Shape.Idx.first Facts.h_S_)
  unfold Cert.Pre_finite3.fn Cert.Pre_finite3.fn_part1 at h
  obtain ⟨h, h4⟩ := (and_one _ _).1 h
  obtain ⟨h, h3⟩ := (and_one _ _).1 h
  obtain ⟨h0, h2⟩ := (and_one _ _).1 h
  refine ⟨real_of_lt _ ?_, fun j => real_of_lt _ (all_one _ _ _ _ _ h2 j), fun j => real_of_lt _ (all_one _ _ _ _ _ h3 j),
    fun j => real_of_lt _ (all_one _ _ _ _ _ h4 j)⟩
  refine Eq.trans ?_ h0
  have e : shapeCast S_ (extractStridedSlice S1x1 ![0, 0] x0 Facts.slices_S8x128_S1x1_0_0) Facts.shapeCasts_S1x1_S_
      (Shape.Idx.first Facts.h_S_) = x0 (ix2 0 0) := by
    pointwise []
  rw [← e]
  rfl

end Cert.Pre_finite3.Read

end
-- ==== Proof.AttnClaims.lean ====
/- The attention call's claims: its runs, its named constants, and that its result and its reference's are equal. -/
module

public import proofs.«01_k».proof.Defs
public import proofs.«01_k».proof.Proof.Gen.Kernel3.Frame
public import proofs.«01_k».proof.Proof.AttnArray
public import proofs.«01_k».proof.Proof.AttnRef
public import proofs.«01_k».proof.Proof.AttnPre
public import proofs.«01_k».proof.Proof.Gen.Pre_finite3
public import proofs.«01_k».proof.Proof.Gen.Reference3Ideal.Run
public import Idealize.ShloMosaic.Adequacy
public import Idealize.ShloMosaic.Init
public import Idealize.ShloMosaic.Lib.Claim

@[expose] public section

set_option maxRecDepth 16384

noncomputable section

namespace Cert.Proof.Attn

open Idealize.ShloMosaic Idealize.SL.Sem

attribute [local instance] Cert.Kernel3.Gen.facts Cert.Kernel3Ideal.Gen.facts Cert.Reference3Ideal.Gen.facts
  Cert.Pre_finite3.Gen.facts

/-- The kernel runs and leaves its arguments as they were. -/
theorem frame : Cert.quiescent_Kernel3 := by
  intro m g _
  exact Cert.Kernel3.Gen.frame m g

/-- So does the kernel over the reals. -/
theorem frame_ideal : Cert.quiescent_Kernel3Ideal := by
  intro m g _
  exact Cert.Kernel3Ideal.Gen.frame m g

/-- So it does from finite arguments. -/
theorem frame_ideal_pre : Cert.quiescent_Kernel3Ideal_pre_finite3 := by
  intro m g _
  exact Cert.Kernel3Ideal.Gen.frame m g

/-- So does its reference. -/
theorem frame_reference : Cert.quiescent_Reference3Ideal := by
  intro m g _
  exact (θ_run Cert.Reference3Ideal.defs _ _).mono (fun r h => ⟨fun c => (h c).2, sem_eq_zero_of_no_sems (by decide) r.2⟩)
    (Cert.Reference3Ideal.Value.run m g)

/-- So does its reference from finite arguments. -/
theorem frame_reference_pre : Cert.quiescent_Reference3Ideal_pre_finite3 := by
  intro m g _
  exact (θ_run Cert.Reference3Ideal.defs _ _).mono (fun r h => ⟨fun c => (h c).2, sem_eq_zero_of_no_sems (by decide) r.2⟩)
    (Cert.Reference3Ideal.Value.run m g)

/-- The named constants stand for the values they are given. -/
theorem preserved : Cert.preserves_Kernel3_Kernel3Ideal :=
  ⟨IdealRules.named_const.statement Cert.Kernel3Ideal.κ "qscale" .f32 0x3E38AA3B#32 (((1 / 8) * (Real.log 2)⁻¹ : ℝ) : EReal) rfl,
    IdealRules.named_const.statement Cert.Kernel3Ideal.κ "mask" .f32 0xF149F2CA#32 ⊥ rfl⟩

/-- The kernel's result equals its reference's. -/
theorem equal : Cert.algebraic_Kernel3Ideal_Reference3Ideal_pre_finite3 := by
  pair_intro
  · run_from Cert.Kernel3Ideal.Value.run_blocks m g
  · run_from Cert.Reference3Ideal.Value.run m' g'
    obtain ⟨a0, a1, a2, a3, a4⟩ := hagree c
    obtain ⟨h0, h2, h3, h4⟩ := Cert.Pre_finite3.Read.finite _ _ _ _ _ (hpre c)
    refine (Cert.Reference3Ideal.Read.val_main_v54_eq m' c).trans ?_
    rw [a0, a1, a2, a3, a4]
    refine (Cert.Reference3Ideal.Attn.final _ h0 h2 h3 h4).trans ?_
    exact (Cert.Kernel3Ideal.Attn.final m c h0 h2 h3 h4).symm

end Cert.Proof.Attn

end
-- ==== Proof.ProjSpec.lean ====
/- The prompt's input projection, as plain functions of one token's row. -/
module

public import proofs.«01_k».proof.Proof.MixSpec

@[expose] public section

noncomputable section

namespace Cert.Row

open Idealize.ShloMosaic

/-- One column of the projection of the normalised row. -/
def column (x g : Fin 1024 → EReal) (w : Fin 1024 → Fin 5632 → EReal) (n : Fin 5632) : EReal :=
  ∑ k, rms x g k * w k n

/-- The rotary embedding of a row of 1024 columns, sixteen groups of 64: a column of a group's first half is turned with
    the column 32 further, one of the second half with the column 32 before, by the angle of its place in the half. -/
def rotary (z : Fin 1024 → EReal) (c s : Fin 32 → EReal) (n : Fin 1024) : EReal :=
  if h : n.val % 64 < 32 then
    z n * c ⟨n.val % 32, by omega⟩ - z ⟨n.val + 32, by omega⟩ * s ⟨n.val % 32, by omega⟩
  else z ⟨n.val - 32, by omega⟩ * s ⟨n.val % 32, by omega⟩ + z n * c ⟨n.val % 32, by omega⟩

end Cert.Row

end
-- ==== Proof.ProjBlock.lean ====
/- What one block of the input projection stores, entry by entry. -/
module

public import proofs.«01_k».proof.Proof.ProjSpec
public import proofs.«01_k».proof.Proof.Gen.Kernel4Ideal.Skeleton
public import Idealize.ShloMosaic.Lib.Pipeline.ValueKit

@[expose] public section

set_option maxRecDepth 16384

noncomputable section

namespace Cert.Kernel4Ideal.Proj

open Cert.Kernel4Ideal Cert.Kernel4Ideal.Gen Idealize.ShloMosaic Idealize.ShloMosaic.TcCoe

/-- The normalised rows. -/
theorem pay4_apply (x : FVec Ideal S512x1024 .f32) (g : FVec Ideal S1x1024 .f32) (r : Fin 512) (k : Fin 1024) :
    k0_pay4 (F := Ideal) x g (ix2 r k) = Row.rms (fun i => x (ix2 r i)) (fun i => g (ix2 0 i)) k := by
  pointwise [k0_pay4, Row.rms]

/-- The lanes of the first half of a group of 64. -/
theorem first_apply (r : Fin 512) (l : Fin 128) : k0_pay7 (ix2 r l) = if l.val % 64 < 32 then 1#1 else 0#1 := by
  pointwise [k0_pay7]
  revert l
  decide

/-- A product of the normalised rows with 512 columns of the weights. -/
theorem pay8_apply (h : FVec Ideal S512x1024 .bf16) (w : FVec Ideal S1024x512 .bf16) (r j : Fin 512) :
    k0_pay8 (F := Ideal) h w (ix2 r j) = ∑ k : Fin 1024, h (ix2 r k) * w (ix2 k j) := by
  pointwise [k0_pay8]

/-- A block of 128 lanes of a product, turned by the tables. -/
abbrev turned (c s : FVec Ideal S512x128 .f32) (f : IVec S512x128 1) (z : FVec Ideal S512x128 .f32) :
    FVec Ideal S512x128 .f32 :=
  addf (mulf z c) (mulf (select f (dynamicRotate 1 96#32 none z rotates_S512x128_d1)
    (dynamicRotate 1 32#32 none z rotates_S512x128_d1)) s)

/-- Its entries: each lane with the lane 32 further or before. -/
theorem turned_apply (c s z : FVec Ideal S512x128 .f32) (r : Fin 512) (l : Fin 128) :
    turned c s k0_pay7 z (ix2 r l) = z (ix2 r l) * c (ix2 r l)
      + z (ix2 r ⟨if l.val % 64 < 32 then l.val + 32 else l.val - 32, by split_ifs <;> omega⟩) * s (ix2 r l) := by
  unfold turned
  pointwise []
  rw [first_apply]
  by_cases hl : l.val % 64 < 32
  · have hi : (l.val + 128 - 96) % 128 = l.val + 32 := by omega
    simp only [hl, if_true, hi, Scalar.select]
    rfl
  · have hi : (l.val + 128 - 32) % 128 = l.val - 32 := by omega
    simp only [hl, if_false, hi, Scalar.select]
    rfl

/-- A block of 128 lanes of a product. -/
theorem lanes_apply (z : FVec Ideal S512x512 .f32) (o : ℕ) (h : S512x512.Slices ![0, o] S512x128) (ho : o + 128 ≤ 512)
    (r : Fin 512) (l : Fin 128) : extractStridedSlice S512x128 ![0, o] z h (ix2 r l) = z (ix2 r ⟨o + l.val, by omega⟩) := by
  pointwise []

/-- The product of the normalised rows with the 512 columns of the weights from `o` on. -/
abbrev product (h : FVec Ideal S512x1024 .bf16) (w : FVec Ideal S1024x5632 .bf16) (o : ℕ)
    (ho : ∀ a, (![0, o] : Fin 2 → ℕ) a + S1024x512.size a ≤ S1024x5632.size a) : FVec Ideal S512x512 .f32 :=
  k0_pay8 (F := Ideal) h (View.ld (Val := Elt Ideal) (e' := .bf16) w (Rect.unit (s := S1024x5632) ![0, o] S1024x512.size ho))

/-- Its entries are columns of the projection of the rows. -/
theorem product_apply (x : FVec Ideal S512x1024 .f32) (g : FVec Ideal S1x1024 .f32) (w : FVec Ideal S1024x5632 .bf16)
    (o : ℕ) (ho) (hb : o + 512 ≤ 5632) (r j : Fin 512) :
    product (k0_pay4 (F := Ideal) x g) w o ho (ix2 r j)
      = Row.column (fun i => x (ix2 r i)) (fun i => g (ix2 0 i)) (fun k n => w (ix2 k n)) ⟨o + j.val, by omega⟩ := by
  refine (pay8_apply _ _ r j).trans ?_
  unfold Row.column
  refine Finset.sum_congr rfl fun k _ => ?_
  rw [pay4_apply]
  refine congrArg (Row.rms _ _ k * ·) ?_
  refine View.ld_unit_apply_of _ _ _ _ _ _ (fun a => ?_)
  fin_cases a <;> simp

/-- 1024 columns turned by the tables: each with the column 32 further or before, in its group of 64. -/
def turn (z : Fin 512 → Fin 1024 → EReal) (c s : FVec Ideal S512x128 .f32) : FVec Ideal S512x1024 .f32 := fun i =>
  have h : (i 1).val < 1024 := (i 1).isLt
  z (i 0) (i 1) * c (ix2 (i 0) ⟨(i 1).val % 128, by omega⟩)
    + z (i 0) ⟨if (i 1).val % 64 < 32 then (i 1).val + 32 else (i 1).val - 32, by split_ifs <;> omega⟩
      * s (ix2 (i 0) ⟨(i 1).val % 128, by omega⟩)

/-- A block of 128 turned lanes is a block of the turned columns. -/
theorem turned_eq {z : Fin 512 → Fin 1024 → EReal} {y : FVec Ideal S512x512 .f32} {b : ℕ} (hb : b + 512 ≤ 1024)
    (hy : ∀ r j : Fin 512, y (ix2 r j) = z r ⟨b + j.val, by omega⟩) (c s : FVec Ideal S512x128 .f32) (o : ℕ)
    (ho : o + 128 ≤ 512) (h : S512x512.Slices ![0, o] S512x128) (hm : o % 128 = 0) (hn : b % 128 = 0)
    (hi : ∀ a, (![0, b + o] : Fin 2 → ℕ) a + S512x128.size a ≤ S512x1024.size a) (x : S512x128.Idx) :
    turned c s k0_pay7 (extractStridedSlice S512x128 ![0, o] y h) x
      = turn z c s ((Rect.unit (s := S512x1024) ![0, b + o] S512x128.size hi).emb x) := by
  obtain ⟨r, l, rfl⟩ : ∃ (r : Fin 512) (l : Fin 128), x = ix2 r l :=
    ⟨x 0, x 1, by funext a; fin_cases a <;> rfl⟩
  have ee : (Rect.unit (s := S512x1024) ![0, b + o] S512x128.size hi).emb (ix2 r l)
      = (ix2 r ⟨b + o + l.val, by omega⟩ : S512x1024.Idx) := by
    funext a; refine Fin.ext ?_
    fin_cases a
    · show 0 + 1 * r.val = r.val; omega
    · show b + o + 1 * l.val = b + o + l.val; omega
  rw [ee, turned_apply, lanes_apply _ _ _ ho, lanes_apply _ _ _ ho, hy, hy]
  show _ = z r ⟨b + o + l.val, _⟩ * c (ix2 r ⟨(b + o + l.val) % 128, _⟩)
    + z r ⟨if (b + o + l.val) % 64 < 32 then b + o + l.val + 32 else b + o + l.val - 32, _⟩
      * s (ix2 r ⟨(b + o + l.val) % 128, _⟩)
  have e1 : (⟨(b + o + l.val) % 128, by omega⟩ : Fin 128) = l := Fin.ext (by show _ % 128 = l.val; omega)
  rw [e1]
  refine congrArg₂ (fun p q => z r p * c (ix2 r l) + z r q * s (ix2 r l)) ?_ ?_
  · refine Fin.ext ?_
    show b + (o + l.val) = b + o + l.val
    omega
  · refine Fin.ext ?_
    show b + (o + (if l.val % 64 < 32 then l.val + 32 else l.val - 32)) = _
    by_cases hl : l.val % 64 < 32
    · have hl' : (b + o + l.val) % 64 < 32 := by omega
      rw [if_pos hl]; simp only [hl', if_true]; omega
    · have hl' : ¬ (b + o + l.val) % 64 < 32 := by omega
      rw [if_neg hl]; simp only [hl', if_false]; omega

end Cert.Kernel4Ideal.Proj

end
-- ==== Proof.ProjRun.lean ====
/- What one step of the input projection leaves in its result blocks. -/
module

public import proofs.«01_k».proof.Proof.ProjBlock
public import proofs.«01_k».proof.Proof.Gen.Kernel4Ideal.Value
public import Idealize.ShloMosaic.Lib.Pipeline.ReadBack

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Idealize.ShloMosaic.Pipeline (Dat)

/-- 1024 columns of the projection of a block's rows, from column `o` on. -/
abbrev cols (x0 : FVec Ideal S512x1024 .f32) (x1 : FVec Ideal S1x1024 .f32) (x2 : FVec Ideal S1024x5632 .bf16) (o : ℕ)
    (ho : o + 1024 ≤ 5632) (r : Fin 512) (n : Fin 1024) : EReal :=
  Row.column (fun k => x0 (ix2 r k)) (fun k => x1 (ix2 0 k)) (fun k n => x2 (ix2 k n)) ⟨o + n.val, by omega⟩

/-- Reading the whole of a block of rows. -/
theorem whole_rows (x : Vec Ideal S512x1024 .f32) :
    View.ld (Val := Elt Ideal) (e' := .f32) x (Rect.unit (s := S512x1024) ![0, 0] ![512, 1024] inb_S512x1024_S512x1024_0_0) = x := by
  funext i; refine View.ld_unit_apply_of _ _ _ _ _ _ (fun a => ?_); fin_cases a <;> simp

/-- Reading the whole of the norm's weights. -/
theorem whole_weights (x : Vec Ideal S1x1024 .f32) :
    View.ld (Val := Elt Ideal) (e' := .f32) x (Rect.unit (s := S1x1024) ![0, 0] ![1, 1024] inb_S1x1024_S1x1024_0_0) = x := by
  funext i; refine View.ld_unit_apply_of _ _ _ _ _ _ (fun a => ?_); fin_cases a <;> simp

/-- Reading the whole of a table. -/
theorem whole_table (x : Vec Ideal S512x128 .f32) :
    View.ld (Val := Elt Ideal) (e' := .f32) x (Rect.unit (s := S512x128) ![0, 0] ![512, 128] inb_S512x128_S512x128_0_0) = x := by
  funext i; refine View.ld_unit_apply_of _ _ _ _ _ _ (fun a => ?_); fin_cases a <;> simp

/-- The cosines' table as the body reads it. -/
theorem pay5_eq (x : FVec Ideal S512x128 .f32) : k0_pay5 (F := Ideal) x = x := by
  funext i
  obtain ⟨r, l, rfl⟩ : ∃ (r : Fin 512) (l : Fin 128), i = ix2 r l := ⟨i 0, i 1, by funext a; fin_cases a <;> rfl⟩
  pointwise [k0_pay5]

/-- The sines' table as the body reads it. -/
theorem pay6_eq (x : FVec Ideal S512x128 .f32) : k0_pay6 (F := Ideal) x = x := pay5_eq x

/-- A block of 512 columns of the projection is a block of `cols`. -/
theorem product_block (x0 : FVec Ideal S512x1024 .f32) (x1 : FVec Ideal S1x1024 .f32) (x2 : FVec Ideal S1024x5632 .bf16)
    (o b : ℕ) (ho : o + 1024 ≤ 5632) (hb : b + 512 ≤ 1024) (hi) (x : S512x512.Idx) (hj)
    : product (k0_pay4 (F := Ideal) x0 x1) x2 (o + b) hi x
      = (fun i : S512x1024.Idx => cols x0 x1 x2 o ho (i 0) (i 1))
          ((Rect.unit (s := S512x1024) ![0, b] S512x512.size hj).emb x) := by
  obtain ⟨r, l, rfl⟩ : ∃ (r : Fin 512) (l : Fin 512), x = ix2 r l := ⟨x 0, x 1, by funext a; fin_cases a <;> rfl⟩
  have ee : (Rect.unit (s := S512x1024) ![0, b] S512x512.size hj).emb (ix2 r l)
      = (ix2 r ⟨b + l.val, by omega⟩ : S512x1024.Idx) := by
    funext a; refine Fin.ext ?_
    fin_cases a
    · show 0 + 1 * r.val = r.val; omega
    · show b + 1 * l.val = b + l.val; omega
  rw [ee, product_apply _ _ _ _ _ (by omega)]
  exact congrArg (Row.column _ _ _) (Fin.ext (Nat.add_assoc _ _ _))

/-- The same, at the entries of a block. -/
theorem product_cols (x0 : FVec Ideal S512x1024 .f32) (x1 : FVec Ideal S1x1024 .f32) (x2 : FVec Ideal S1024x5632 .bf16)
    (o b : ℕ) (ho : o + 1024 ≤ 5632) (hb : b + 512 ≤ 1024) (hi) (r j : Fin 512) :
    product (k0_pay4 (F := Ideal) x0 x1) x2 (o + b) hi (ix2 r j) = cols x0 x1 x2 o ho r ⟨b + j.val, by omega⟩ := by
  rw [product_apply _ _ _ _ _ (by omega)]
  exact congrArg (Row.column _ _ _) (Fin.ext (Nat.add_assoc _ _ _))

/-- The first 512 columns of the projection of a block's rows. -/
def pooling (x0 : FVec Ideal S512x1024 .f32) (x1 : FVec Ideal S1x1024 .f32) (x2 : FVec Ideal S1024x5632 .bf16) :
    FVec Ideal S512x512 .f32 := fun i =>
  have h : (i 1).val < 512 := (i 1).isLt
  Row.column (fun k => x0 (ix2 (i 0) k)) (fun k => x1 (ix2 0 k)) (fun k n => x2 (ix2 k n)) ⟨(i 1).val, by omega⟩

/-- They are the first product. -/
theorem product_pooling (x0 : FVec Ideal S512x1024 .f32) (x1 : FVec Ideal S1x1024 .f32) (x2 : FVec Ideal S1024x5632 .bf16)
    (hi) (x : S512x512.Idx) (hj) : product (k0_pay4 (F := Ideal) x0 x1) x2 0 hi x
      = pooling x0 x1 x2 ((Rect.unit (s := S512x512) ![0, 0] S512x512.size hj).emb x) := by
  obtain ⟨r, l, rfl⟩ : ∃ (r : Fin 512) (l : Fin 512), x = ix2 r l := ⟨x 0, x 1, by funext a; fin_cases a <;> rfl⟩
  have ee : (Rect.unit (s := S512x512) ![0, 0] S512x512.size hj).emb (ix2 r l) = (ix2 r l : S512x512.Idx) := by
    funext a; refine Fin.ext ?_
    fin_cases a
    · show 0 + 1 * r.val = r.val; omega
    · show 0 + 1 * l.val = l.val; omega
  rw [ee, product_apply _ _ _ _ _ (by omega)]
  exact congrArg (Row.column _ _ _) (Fin.ext (Nat.zero_add _))

set_option maxHeartbeats 4000000 in
/-- The block of pooled features after the first step of a sequence. -/
theorem blockA_5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x512 .bf16) (harg12 : arg12.IsWhole) (arg13 : Memref sig .tc .vmem S512x1024 .bf16) (harg13 : arg13.IsWhole) (arg14 : Memref sig .tc .vmem S528x512 .f32) (harg14 : arg14.IsWhole) (hc0 : cond0_0 i) (hc1 : ¬cond0_1 i)
    (x0 : Vec Ideal S512x1024 .f32) (x1 : Vec Ideal S1x1024 .f32) (x2 : Vec Ideal S1024x5632 .bf16) (x3 : Vec Ideal S512x128 .f32) (x4 : Vec Ideal S512x128 .f32)
    (y : S512x512.Idx) :
    out0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 y
      = pooling x0 x1 x2 y := by
  unfold out0_A_5
  rw [View.read_writes_junk_eq_canon]
  refine View.canon_apply_of_pieces (pooling x0 x1 x2) _
    (View.PiecesOf.mem (Val := Elt Ideal) (e := .f32) (G := (pooling x0 x1 x2)) ?_) y (cover0_A_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 y)
  frame_open
  simp (disch := decide) only [↓ View.readCov_cons_toLoadRect, View.read_writes_junk_eq_canon,
    View.readAt_eq_ld, Memref.IsWhole.read_unread, whole_rows, whole_weights, whole_table, pay5_eq, pay6_eq]
  exact ⟨fun x => product_pooling x0 x1 x2 _ x inb_S512x512_S512x512_0_0, trivial⟩

set_option maxHeartbeats 4000000 in
/-- The block of keys after the first step of a sequence. -/
theorem blockA_7 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x512 .bf16) (harg12 : arg12.IsWhole) (arg13 : Memref sig .tc .vmem S512x1024 .bf16) (harg13 : arg13.IsWhole) (arg14 : Memref sig .tc .vmem S528x512 .f32) (harg14 : arg14.IsWhole) (hc0 : cond0_0 i) (hc1 : ¬cond0_1 i)
    (x0 : Vec Ideal S512x1024 .f32) (x1 : Vec Ideal S1x1024 .f32) (x2 : Vec Ideal S1024x5632 .bf16) (x3 : Vec Ideal S512x128 .f32) (x4 : Vec Ideal S512x128 .f32)
    (y : S512x1024.Idx) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 y
      = turn (cols x0 x1 x2 1536 (by omega)) x3 x4 y := by
  unfold out0_A_7
  rw [View.read_writes_junk_eq_canon]
  refine View.canon_apply_of_pieces (turn (cols x0 x1 x2 1536 (by omega)) x3 x4) _
    (View.PiecesOf.mem (Val := Elt Ideal) (e := .f32) (G := (turn (cols x0 x1 x2 1536 (by omega)) x3 x4)) ?_) y (cover0_A_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 y)
  frame_open
  simp (disch := decide) only [↓ View.readCov_cons_toLoadRect, View.read_writes_junk_eq_canon,
    View.readAt_eq_ld, Memref.IsWhole.read_unread, whole_rows, whole_weights, whole_table, pay5_eq, pay6_eq]
  exact ⟨fun x => turned_eq (b := 512) (by omega) (product_cols x0 x1 x2 1536 512 _ (by omega) _) x3 x4 384 (by omega) slices_S512x512_o0_384_S512x128 (by omega) (by omega) inb_S512x1024_S512x128_0_896 x,
    fun x => turned_eq (b := 512) (by omega) (product_cols x0 x1 x2 1536 512 _ (by omega) _) x3 x4 256 (by omega) slices_S512x512_o0_256_S512x128 (by omega) (by omega) inb_S512x1024_S512x128_0_768 x,
    fun x => turned_eq (b := 512) (by omega) (product_cols x0 x1 x2 1536 512 _ (by omega) _) x3 x4 128 (by omega) slices_S512x512_o0_128_S512x128 (by omega) (by omega) inb_S512x1024_S512x128_0_640 x,
    fun x => turned_eq (b := 512) (by omega) (product_cols x0 x1 x2 1536 512 _ (by omega) _) x3 x4 0 (by omega) slices_S512x512_o0_0_S512x128 (by omega) (by omega) inb_S512x1024_S512x128_0_512 x,
    fun x => turned_eq (b := 0) (by omega) (product_cols x0 x1 x2 1536 0 _ (by omega) _) x3 x4 384 (by omega) slices_S512x512_o0_384_S512x128 (by omega) (by omega) inb_S512x1024_S512x128_0_384 x,
    fun x => turned_eq (b := 0) (by omega) (product_cols x0 x1 x2 1536 0 _ (by omega) _) x3 x4 256 (by omega) slices_S512x512_o0_256_S512x128 (by omega) (by omega) inb_S512x1024_S512x128_0_256 x,
    fun x => turned_eq (b := 0) (by omega) (product_cols x0 x1 x2 1536 0 _ (by omega) _) x3 x4 128 (by omega) slices_S512x512_o0_128_S512x128 (by omega) (by omega) inb_S512x1024_S512x128_0_128 x,
    fun x => turned_eq (b := 0) (by omega) (product_cols x0 x1 x2 1536 0 _ (by omega) _) x3 x4 0 (by omega) slices_S512x512_o0_0_S512x128 (by omega) (by omega) inb_S512x1024_S512x128_0_0 x, trivial⟩

set_option maxHeartbeats 4000000 in
/-- The block of values after the first step of a sequence. -/
theorem blockA_8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x512 .bf16) (harg12 : arg12.IsWhole) (arg13 : Memref sig .tc .vmem S512x1024 .bf16) (harg13 : arg13.IsWhole) (arg14 : Memref sig .tc .vmem S528x512 .f32) (harg14 : arg14.IsWhole) (hc0 : cond0_0 i) (hc1 : ¬cond0_1 i)
    (x0 : Vec Ideal S512x1024 .f32) (x1 : Vec Ideal S1x1024 .f32) (x2 : Vec Ideal S1024x5632 .bf16) (x3 : Vec Ideal S512x128 .f32) (x4 : Vec Ideal S512x128 .f32)
    (y : S512x1024.Idx) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 y
      = cols x0 x1 x2 2560 (by omega) (y 0) (y 1) := by
  unfold out0_A_8
  rw [View.read_writes_junk_eq_canon]
  refine View.canon_apply_of_pieces (fun i : S512x1024.Idx => cols x0 x1 x2 2560 (by omega) (i 0) (i 1)) _
    (View.PiecesOf.mem (Val := Elt Ideal) (e := .f32) (G := (fun i : S512x1024.Idx => cols x0 x1 x2 2560 (by omega) (i 0) (i 1))) ?_) y (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 y)
  frame_open
  simp (disch := decide) only [↓ View.readCov_cons_toLoadRect, View.read_writes_junk_eq_canon,
    View.readAt_eq_ld, Memref.IsWhole.read_unread, whole_rows, whole_weights, whole_table, pay5_eq, pay6_eq]
  exact ⟨fun x => product_block x0 x1 x2 2560 512 _ (by omega) _ x inb_S512x1024_S512x512_0_512,
    fun x => product_block x0 x1 x2 2560 0 _ (by omega) _ x inb_S512x1024_S512x512_0_0, trivial⟩

set_option maxHeartbeats 4000000 in
/-- The block of pooled features after a later step of a sequence. -/
theorem blockB_5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x512 .bf16) (harg12 : arg12.IsWhole) (arg13 : Memref sig .tc .vmem S512x1024 .bf16) (harg13 : arg13.IsWhole) (arg14 : Memref sig .tc .vmem S528x512 .f32) (harg14 : arg14.IsWhole) (hc0 : ¬cond0_0 i) (hc1 : cond0_1 i)
    (x0 : Vec Ideal S512x1024 .f32) (x1 : Vec Ideal S1x1024 .f32) (x2 : Vec Ideal S1024x5632 .bf16) (x3 : Vec Ideal S512x128 .f32) (x4 : Vec Ideal S512x128 .f32) (xs1 : Vec Ideal S528x512 .f32)
    (y : S512x512.Idx) :
    out0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 y
      = pooling x0 x1 x2 y := by
  unfold out0_B_5
  rw [View.read_writes_junk_eq_canon]
  refine View.canon_apply_of_pieces (pooling x0 x1 x2) _
    (View.PiecesOf.mem (Val := Elt Ideal) (e := .f32) (G := (pooling x0 x1 x2)) ?_) y (cover0_B_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 y)
  frame_open
  simp (disch := decide) only [↓ View.readCov_cons_toLoadRect, View.read_writes_junk_eq_canon,
    View.readAt_eq_ld, Memref.IsWhole.read_unread, whole_rows, whole_weights, whole_table, pay5_eq, pay6_eq]
  exact ⟨fun x => product_pooling x0 x1 x2 _ x inb_S512x512_S512x512_0_0, trivial⟩

set_option maxHeartbeats 4000000 in
/-- The block of keys after a later step of a sequence. -/
theorem blockB_7 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x512 .bf16) (harg12 : arg12.IsWhole) (arg13 : Memref sig .tc .vmem S512x1024 .bf16) (harg13 : arg13.IsWhole) (arg14 : Memref sig .tc .vmem S528x512 .f32) (harg14 : arg14.IsWhole) (hc0 : ¬cond0_0 i) (hc1 : cond0_1 i)
    (x0 : Vec Ideal S512x1024 .f32) (x1 : Vec Ideal S1x1024 .f32) (x2 : Vec Ideal S1024x5632 .bf16) (x3 : Vec Ideal S512x128 .f32) (x4 : Vec Ideal S512x128 .f32) (xs1 : Vec Ideal S528x512 .f32)
    (y : S512x1024.Idx) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 y
      = turn (cols x0 x1 x2 1536 (by omega)) x3 x4 y := by
  unfold out0_B_7
  rw [View.read_writes_junk_eq_canon]
  refine View.canon_apply_of_pieces (turn (cols x0 x1 x2 1536 (by omega)) x3 x4) _
    (View.PiecesOf.mem (Val := Elt Ideal) (e := .f32) (G := (turn (cols x0 x1 x2 1536 (by omega)) x3 x4)) ?_) y (cover0_B_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 y)
  frame_open
  simp (disch := decide) only [↓ View.readCov_cons_toLoadRect, View.read_writes_junk_eq_canon,
    View.readAt_eq_ld, Memref.IsWhole.read_unread, whole_rows, whole_weights, whole_table, pay5_eq, pay6_eq]
  exact ⟨fun x => turned_eq (b := 512) (by omega) (product_cols x0 x1 x2 1536 512 _ (by omega) _) x3 x4 384 (by omega) slices_S512x512_o0_384_S512x128 (by omega) (by omega) inb_S512x1024_S512x128_0_896 x,
    fun x => turned_eq (b := 512) (by omega) (product_cols x0 x1 x2 1536 512 _ (by omega) _) x3 x4 256 (by omega) slices_S512x512_o0_256_S512x128 (by omega) (by omega) inb_S512x1024_S512x128_0_768 x,
    fun x => turned_eq (b := 512) (by omega) (product_cols x0 x1 x2 1536 512 _ (by omega) _) x3 x4 128 (by omega) slices_S512x512_o0_128_S512x128 (by omega) (by omega) inb_S512x1024_S512x128_0_640 x,
    fun x => turned_eq (b := 512) (by omega) (product_cols x0 x1 x2 1536 512 _ (by omega) _) x3 x4 0 (by omega) slices_S512x512_o0_0_S512x128 (by omega) (by omega) inb_S512x1024_S512x128_0_512 x,
    fun x => turned_eq (b := 0) (by omega) (product_cols x0 x1 x2 1536 0 _ (by omega) _) x3 x4 384 (by omega) slices_S512x512_o0_384_S512x128 (by omega) (by omega) inb_S512x1024_S512x128_0_384 x,
    fun x => turned_eq (b := 0) (by omega) (product_cols x0 x1 x2 1536 0 _ (by omega) _) x3 x4 256 (by omega) slices_S512x512_o0_256_S512x128 (by omega) (by omega) inb_S512x1024_S512x128_0_256 x,
    fun x => turned_eq (b := 0) (by omega) (product_cols x0 x1 x2 1536 0 _ (by omega) _) x3 x4 128 (by omega) slices_S512x512_o0_128_S512x128 (by omega) (by omega) inb_S512x1024_S512x128_0_128 x,
    fun x => turned_eq (b := 0) (by omega) (product_cols x0 x1 x2 1536 0 _ (by omega) _) x3 x4 0 (by omega) slices_S512x512_o0_0_S512x128 (by omega) (by omega) inb_S512x1024_S512x128_0_0 x, trivial⟩

set_option maxHeartbeats 4000000 in
/-- The block of values after a later step of a sequence. -/
theorem blockB_8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x512 .bf16) (harg12 : arg12.IsWhole) (arg13 : Memref sig .tc .vmem S512x1024 .bf16) (harg13 : arg13.IsWhole) (arg14 : Memref sig .tc .vmem S528x512 .f32) (harg14 : arg14.IsWhole) (hc0 : ¬cond0_0 i) (hc1 : cond0_1 i)
    (x0 : Vec Ideal S512x1024 .f32) (x1 : Vec Ideal S1x1024 .f32) (x2 : Vec Ideal S1024x5632 .bf16) (x3 : Vec Ideal S512x128 .f32) (x4 : Vec Ideal S512x128 .f32) (xs1 : Vec Ideal S528x512 .f32)
    (y : S512x1024.Idx) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 y
      = cols x0 x1 x2 2560 (by omega) (y 0) (y 1) := by
  unfold out0_B_8
  rw [View.read_writes_junk_eq_canon]
  refine View.canon_apply_of_pieces (fun i : S512x1024.Idx => cols x0 x1 x2 2560 (by omega) (i 0) (i 1)) _
    (View.PiecesOf.mem (Val := Elt Ideal) (e := .f32) (G := (fun i : S512x1024.Idx => cols x0 x1 x2 2560 (by omega) (i 0) (i 1))) ?_) y (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 y)
  frame_open
  simp (disch := decide) only [↓ View.readCov_cons_toLoadRect, View.read_writes_junk_eq_canon,
    View.readAt_eq_ld, Memref.IsWhole.read_unread, whole_rows, whole_weights, whole_table, pay5_eq, pay6_eq]
  exact ⟨fun x => product_block x0 x1 x2 2560 512 _ (by omega) _ x inb_S512x1024_S512x512_0_512,
    fun x => product_block x0 x1 x2 2560 0 _ (by omega) _ x inb_S512x1024_S512x512_0_0, trivial⟩

end Cert.Kernel4Ideal.Proj

end
-- ==== Proof.ProjArray.lean ====
/- What the input projection's result arrays hold after the run. -/
module

public import proofs.«01_k».proof.Proof.ProjRun

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Four copies of the 32 cosines of every position. -/
def cosTable (x : FVec Ideal S4096x32 .f32) : FVec Ideal S4096x128 .f32 :=
  concatenate S4096x128 1 [⟨S4096x32, x⟩, ⟨S4096x32, x⟩, ⟨S4096x32, x⟩, ⟨S4096x32, x⟩]
    concatenates_S4096x32_S4096x32_S4096x32_S4096x32_S4096x128_d1

/-- Its entries. -/
theorem cosTable_apply (x : FVec Ideal S4096x32 .f32) (p : Fin 4096) (l : Fin 128) :
    cosTable x (ix2 p l) = x (ix2 p ⟨l.val % 32, by omega⟩) := by
  pointwise [cosTable]
  split_ifs <;> exact congrArg (fun j => x (ix2 p j)) (Fin.ext (by first | omega | (dsimp only; omega)))

/-- The same of the sines, the first and third negated. -/
def sinTable (x : FVec Ideal S4096x32 .f32) : FVec Ideal S4096x128 .f32 :=
  concatenate S4096x128 1 [⟨S4096x32, Host.negf x⟩, ⟨S4096x32, x⟩, ⟨S4096x32, Host.negf x⟩, ⟨S4096x32, x⟩]
    concatenates_S4096x32_S4096x32_S4096x32_S4096x32_S4096x128_d1

/-- Its entries. -/
theorem sinTable_apply (x : FVec Ideal S4096x32 .f32) (p : Fin 4096) (l : Fin 128) :
    sinTable x (ix2 p l) = if l.val % 64 < 32 then -(x (ix2 p ⟨l.val % 32, by omega⟩))
      else x (ix2 p ⟨l.val % 32, by omega⟩) := by
  pointwise [sinTable]
  by_cases hl : l.val % 64 < 32
  · rw [if_pos hl]
    split_ifs <;> first
      | (exfalso; omega)
      | exact congrArg (fun j => -(x (ix2 p j))) (Fin.ext (by first | omega | (dsimp only; omega)))
  · rw [if_neg hl]
    split_ifs <;> first
      | (exfalso; omega)
      | exact congrArg (fun j => x (ix2 p j)) (Fin.ext (by first | omega | (dsimp only; omega)))

/-- The host builds the table of cosines. -/
theorem host3 (c : Dev nD) : V m c main_v0 = cosTable (m ((c : Thread nD τ).loc main_arg3)) := by
  unfold V
  after_results_simp
  rfl

/-- The host builds the table of sines. -/
theorem host4 (c : Dev nD) : V m c main_v3 = sinTable (m ((c : Thread nD τ).loc main_arg4)) := by
  unfold V
  after_results_simp
  rfl

/-- The block of every window at a step. -/
theorem idx : ∀ t : Fin cfg0.N, win0_0.index t = ![t.val, 0] ∧ win0_1.index t = ![0, 0] ∧ win0_2.index t = ![0, 0] ∧
    win0_3.index t = ![t.val % 8, 0] ∧ win0_4.index t = ![t.val % 8, 0] ∧ win0_5.index t = ![t.val, 0] ∧
    win0_7.index t = ![t.val, 0] ∧ win0_8.index t = ![t.val, 0] :=
  (by decide +kernel : ∀ t : Fin grid0.N, _)

section Reads

variable (c : Dev nD) (t : Fin cfg0.N)

/-- The sequence a step works on. -/
def seq : Fin 4 := ⟨t.val / 8, by have := t.isLt; change t.val < 32 at this; omega⟩

/-- The position in its sequence of a row of a step. -/
def pos (r : Fin 512) : Fin 4096 := ⟨t.val % 8 * 512 + r.val, by omega⟩

/-- A row of the activations, in its block. -/
theorem read0 (r : Fin 512) (k : Fin 1024) : iblk m c 0 t (ix2 r k)
    = m ((c : Thread nD τ).loc main_arg0) (ix3 (seq t) (pos t r) k) := by
  blk_point [iblk, V, idx t, seq, pos]

/-- The norm's weights, in their block. -/
theorem read1 (k : Fin 1024) : iblk m c 1 t (ix2 0 k) = m ((c : Thread nD τ).loc main_arg1) (ix2 0 k) := by
  blk_point [iblk, V, idx t]

/-- The projection's weights, in their block. -/
theorem read2 (k : Fin 1024) (n : Fin 5632) : iblk m c 2 t (ix2 k n)
    = m ((c : Thread nD τ).loc main_arg2) (ix3 0 k n) := by
  blk_point [iblk, V, idx t]

/-- The table of cosines at a step's positions repeats their 32 cosines. -/
theorem read3 (r : Fin 512) (l : Fin 128) : (iblk m c 3 t : FVec Ideal S512x128 .f32) (ix2 r l)
    = (m ((c : Thread nD τ).loc main_arg3) : FVec Ideal S4096x32 .f32) (ix2 (pos t r) ⟨l.val % 32, by omega⟩) := by
  have h : (iblk m c 3 t : FVec Ideal S512x128 .f32) (ix2 r l)
      = (V m c main_v0 : FVec Ideal S4096x128 .f32) (ix2 (pos t r) l) := by
    blk_point [iblk, idx t, pos]
  rw [h, host3, cosTable_apply]

/-- The table of sines at a step's positions repeats their 32 sines, those of a group's first half negated. -/
theorem read4 (r : Fin 512) (l : Fin 128) : (iblk m c 4 t : FVec Ideal S512x128 .f32) (ix2 r l)
    = sinTable (m ((c : Thread nD τ).loc main_arg4)) (ix2 (pos t r) l) := by
  have h : (iblk m c 4 t : FVec Ideal S512x128 .f32) (ix2 r l)
      = (V m c main_v3 : FVec Ideal S4096x128 .f32) (ix2 (pos t r) l) := by
    blk_point [iblk, idx t, pos]
  rw [h, host4]

end Reads

/-- Columns turned by such tables are the rotary embedding. -/
theorem turn_rotary {z : Fin 512 → Fin 1024 → EReal} {c s : FVec Ideal S512x128 .f32} {C S : Fin 32 → EReal} (r : Fin 512)
    (hc : ∀ l : Fin 128, c (ix2 r l) = C ⟨l.val % 32, by omega⟩)
    (hs : ∀ l : Fin 128, s (ix2 r l) = if l.val % 64 < 32 then -(S ⟨l.val % 32, by omega⟩) else S ⟨l.val % 32, by omega⟩)
    (n : Fin 1024) : turn z c s (ix2 r n) = Row.rotary (z r) C S n := by
  show z r n * c (ix2 r ⟨n.val % 128, _⟩)
    + z r ⟨if n.val % 64 < 32 then n.val + 32 else n.val - 32, _⟩ * s (ix2 r ⟨n.val % 128, _⟩) = _
  have e : (⟨n.val % 128 % 32, by omega⟩ : Fin 32) = ⟨n.val % 32, by omega⟩ := Fin.ext (by show n.val % 128 % 32 = n.val % 32; omega)
  rw [hc, hs]
  unfold Row.rotary
  by_cases hn : n.val % 64 < 32
  · have hm : n.val % 128 % 64 < 32 := by omega
    rw [dif_pos hn, if_pos hm]
    simp only [if_pos hn]
    rw [e, mul_neg, sub_eq_add_neg]
  · have hm : ¬ n.val % 128 % 64 < 32 := by omega
    rw [dif_neg hn, if_neg hm]
    simp only [if_neg hn]
    rw [e, add_comm]

/-- A column of the projection of one row of the result arrays. -/
def col (x0 : FVec Ideal S4x4096x1024 .f32) (x1 : FVec Ideal S1x1024 .f32) (x2 : FVec Ideal S1x1024x5632 .f32)
    (r : Fin 16384) (n : Fin 5632) : EReal :=
  Row.column (fun k => x0 (ix3 ⟨r.val / 4096, by omega⟩ ⟨r.val % 4096, by omega⟩ k)) (fun k => x1 (ix2 0 k))
    (fun k n => x2 (ix3 0 k n)) n

/-- The pooled features, entry by entry, over the argument arrays. -/
def result_u (x0 : FVec Ideal S4x4096x1024 .f32) (x1 : FVec Ideal S1x1024 .f32) (x2 : FVec Ideal S1x1024x5632 .f32) :
    FVec Ideal S16384x512 .f32 := fun i =>
  have h : (i 1).val < 512 := (i 1).isLt
  col x0 x1 x2 (i 0) ⟨(i 1).val, by omega⟩

/-- The values. -/
def result_v (x0 : FVec Ideal S4x4096x1024 .f32) (x1 : FVec Ideal S1x1024 .f32) (x2 : FVec Ideal S1x1024x5632 .f32) :
    FVec Ideal S16384x1024 .f32 := fun i =>
  have h : (i 1).val < 1024 := (i 1).isLt
  col x0 x1 x2 (i 0) ⟨2560 + (i 1).val, by omega⟩

/-- The keys. -/
def result_k (x0 : FVec Ideal S4x4096x1024 .f32) (x1 : FVec Ideal S1x1024 .f32) (x2 : FVec Ideal S1x1024x5632 .f32)
    (x3 x4 : FVec Ideal S4096x32 .f32) : FVec Ideal S16384x1024 .f32 := fun i =>
  have h : (i 0).val < 16384 := (i 0).isLt
  Row.rotary (fun n => col x0 x1 x2 (i 0) ⟨1536 + n.val, by omega⟩) (fun j => x3 (ix2 ⟨(i 0).val % 4096, by omega⟩ j))
    (fun j => x4 (ix2 ⟨(i 0).val % 4096, by omega⟩ j)) (i 1)

section Steps

variable (c : Dev nD) (t : Fin cfg0.N)

/-- The row of the result arrays that a row of a step is. -/
def row (r : Fin 512) : Fin 16384 := ⟨t.val * 512 + r.val, by have := t.isLt; change t.val < 32 at this; omega⟩

/-- A column is a function of the entries it is computed from. -/
theorem column_congr {x x' g g' : Fin 1024 → EReal} {w w' : Fin 1024 → Fin 5632 → EReal} (hx : ∀ k, x k = x' k)
    (hg : ∀ k, g k = g' k) (hw : ∀ k n, w k n = w' k n) (n : Fin 5632) : Row.column x g w n = Row.column x' g' w' n := by
  rw [funext hx, funext hg, funext fun k => funext (hw k)]

/-- The sequence of a step's row. -/
theorem seq_eq (r : Fin 512) : seq t = ⟨(row t r).val / 4096, by have := (row t r).isLt; omega⟩ := by
  have hr : r.val < 512 := r.isLt
  exact Fin.ext (by show t.val / 8 = (t.val * 512 + r.val) / 4096; omega)

/-- The position of a step's row. -/
theorem pos_eq (r : Fin 512) : pos t r = ⟨(row t r).val % 4096, by omega⟩ := by
  have hr : r.val < 512 := r.isLt
  exact Fin.ext (by show t.val % 8 * 512 + r.val = (t.val * 512 + r.val) % 4096; omega)

/-- A column of the projection of a step's row, over the argument arrays. -/
theorem column_eq (r : Fin 512) (n : Fin 5632) :
    Row.column (fun k => (iblk m c 0 t : FVec Ideal S512x1024 .f32) (ix2 r k))
        (fun k => (iblk m c 1 t : FVec Ideal S1x1024 .f32) (ix2 0 k))
        (fun k n => (iblk m c 2 t : FVec Ideal S1024x5632 .bf16) (ix2 k n)) n
      = col (m ((c : Thread nD τ).loc main_arg0)) (m ((c : Thread nD τ).loc main_arg1))
          (m ((c : Thread nD τ).loc main_arg2)) (row t r) n := by
  unfold col
  refine column_congr (fun k => (read0 m c t r k).trans ?_) (fun k => read1 m c t k) (fun k n => read2 m c t k n) n
  rw [seq_eq t r, pos_eq t r]

set_option maxHeartbeats 4000000 in
/-- What a step leaves in the pooled features' block. -/
theorem step_u (y : S512x512.Idx) : (outsAt0 m c t.val t.isLt).1 y
    = pooling (iblk m c 0 t) (iblk m c 1 t) (iblk m c 2 t) y := by
  by_cases h : t.val % 8 = 0
  · refine (congrArg (fun o => (o.1 : FVec Ideal S512x512 .f32) y) (outsAt0_A m c t h (not_not.2 h))).trans ?_
    exact blockA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h) (fun h' => (not_not.2 h) ((hcond0_1 t).mp h')) (iblk m c 0 t) (iblk m c 1 t) (iblk m c 2 t) (iblk m c 3 t) (iblk m c 4 t) y
  · refine (congrArg (fun o => (o.1 : FVec Ideal S512x512 .f32) y) (outsAt0_B m c t h h)).trans ?_
    exact blockB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h' => h ((hcond0_0 t).mp h')) ((hcond0_1 t).mpr h) (iblk m c 0 t) (iblk m c 1 t) (iblk m c 2 t) (iblk m c 3 t) (iblk m c 4 t) (outsAt0 m c (t.val - 1) (Nat.lt_of_le_of_lt (Nat.sub_le _ _) t.isLt)).2.2.2.2.2.2.2 y

set_option maxHeartbeats 4000000 in
/-- What a step leaves in the keys' block. -/
theorem step_k (y : S512x1024.Idx) : (outsAt0 m c t.val t.isLt).2.2.1 y
    = turn (cols (iblk m c 0 t) (iblk m c 1 t) (iblk m c 2 t) 1536 (by omega)) (iblk m c 3 t) (iblk m c 4 t) y := by
  by_cases h : t.val % 8 = 0
  · refine (congrArg (fun o => (o.2.2.1 : FVec Ideal S512x1024 .f32) y) (outsAt0_A m c t h (not_not.2 h))).trans ?_
    exact blockA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h) (fun h' => (not_not.2 h) ((hcond0_1 t).mp h')) (iblk m c 0 t) (iblk m c 1 t) (iblk m c 2 t) (iblk m c 3 t) (iblk m c 4 t) y
  · refine (congrArg (fun o => (o.2.2.1 : FVec Ideal S512x1024 .f32) y) (outsAt0_B m c t h h)).trans ?_
    exact blockB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h' => h ((hcond0_0 t).mp h')) ((hcond0_1 t).mpr h) (iblk m c 0 t) (iblk m c 1 t) (iblk m c 2 t) (iblk m c 3 t) (iblk m c 4 t) (outsAt0 m c (t.val - 1) (Nat.lt_of_le_of_lt (Nat.sub_le _ _) t.isLt)).2.2.2.2.2.2.2 y

set_option maxHeartbeats 4000000 in
/-- What a step leaves in the values' block. -/
theorem step_v (y : S512x1024.Idx) : (outsAt0 m c t.val t.isLt).2.2.2.1 y
    = cols (iblk m c 0 t) (iblk m c 1 t) (iblk m c 2 t) 2560 (by omega) (y 0) (y 1) := by
  by_cases h : t.val % 8 = 0
  · refine (congrArg (fun o => (o.2.2.2.1 : FVec Ideal S512x1024 .f32) y) (outsAt0_A m c t h (not_not.2 h))).trans ?_
    exact blockA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h) (fun h' => (not_not.2 h) ((hcond0_1 t).mp h')) (iblk m c 0 t) (iblk m c 1 t) (iblk m c 2 t) (iblk m c 3 t) (iblk m c 4 t) y
  · refine (congrArg (fun o => (o.2.2.2.1 : FVec Ideal S512x1024 .f32) y) (outsAt0_B m c t h h)).trans ?_
    exact blockB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h' => h ((hcond0_0 t).mp h')) ((hcond0_1 t).mpr h) (iblk m c 0 t) (iblk m c 1 t) (iblk m c 2 t) (iblk m c 3 t) (iblk m c 4 t) (outsAt0 m c (t.val - 1) (Nat.lt_of_le_of_lt (Nat.sub_le _ _) t.isLt)).2.2.2.2.2.2.2 y

end Steps

/-- After the run the first result array holds the pooled features. -/
theorem final_u (c : Dev nD) : (dats m 0 c).arrAt 5 (cfgs 0).N
    = result_u (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5]
  obtain ⟨r, n, rfl⟩ : ∃ (r : Fin 512) (n : Fin 512), y = ix2 r n := ⟨y 0, y 1, by funext a; fin_cases a <;> rfl⟩
  refine (step_u m c t _).trans ((column_eq m c t r _).trans ?_)
  have ht : t.val < 32 := t.isLt
  have e0 : (((View.whole main_v9_0).slice (win0_5.rect t)).emb (ix2 r n)) = ix2 (row t r) n := by blk_ext [idx t, row]
  exact (congrArg (result_u _ _ _) e0).symm

/-- After the run the third result array holds the keys. -/
theorem final_k (c : Dev nD) : (dats m 0 c).arrAt 7 (cfgs 0).N
    = result_k (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  obtain ⟨r, n, rfl⟩ : ∃ (r : Fin 512) (n : Fin 1024), y = ix2 r n := ⟨y 0, y 1, by funext a; fin_cases a <;> rfl⟩
  refine (step_k m c t _).trans ((turn_rotary (C := fun j => (m ((c : Thread nD τ).loc main_arg3) : FVec Ideal S4096x32 .f32) (ix2 (pos t r) j))
    (S := fun j => (m ((c : Thread nD τ).loc main_arg4) : FVec Ideal S4096x32 .f32) (ix2 (pos t r) j)) r (read3 m c t r)
    (fun l => (read4 m c t r l).trans (sinTable_apply _ _ _)) n).trans ?_)
  have ht : t.val < 32 := t.isLt
  have e0 : (((View.whole main_v9_2).slice (win0_7.rect t)).emb (ix2 r n)) = ix2 (row t r) n := by blk_ext [idx t, row]
  refine Eq.trans ?_ (congrArg (result_k _ _ _ _ _) e0).symm
  rw [pos_eq t r]
  exact congrArg (fun z => Row.rotary z _ _ n) (funext fun n => column_eq m c t r _)

/-- After the run the fourth result array holds the values. -/
theorem final_v (c : Dev nD) : (dats m 0 c).arrAt 8 (cfgs 0).N
    = result_v (m ((c : Thread nD τ).loc main_arg0)) (m ((c : Thread nD τ).loc main_arg1))
        (m ((c : Thread nD τ).loc main_arg2)) := by
  refine (dats m 0 c).arrAt_eq_of_covers 8 _ (by decide +kernel) fun t _ y => ?_
  blk_simp
  rw [after0_8]
  obtain ⟨r, n, rfl⟩ : ∃ (r : Fin 512) (n : Fin 1024), y = ix2 r n := ⟨y 0, y 1, by funext a; fin_cases a <;> rfl⟩
  refine (step_v m c t _).trans ((column_eq m c t r _).trans ?_)
  have ht : t.val < 32 := t.isLt
  have e0 : (((View.whole main_v9_3).slice (win0_8.rect t)).emb (ix2 r n)) = ix2 (row t r) n := by blk_ext [idx t, row]
  exact (congrArg (result_v _ _ _) e0).symm

end Cert.Kernel4Ideal.Proj

end
-- ==== Proof.ProjRef.lean ====
/- The input projection's reference, entry by entry. -/
module

public import proofs.«01_k».proof.Proof.ProjSpec
public import proofs.«01_k».proof.Proof.Gen.Reference4Ideal.Read
public import Idealize.ShloMosaic.Lib.Pipeline.ValueKit

@[expose] public section

set_option maxRecDepth 16384

noncomputable section

namespace Cert.Reference4Ideal.Proj

open Cert.Reference4Ideal Cert.Reference4Ideal.Gen Cert.Reference4Ideal.Read Idealize.ShloMosaic
open scoped BigOperators

variable (x0 : FVec Ideal S4x4096x1024 .f32) (x1 : FVec Ideal S1x1024 .f32) (x2 : FVec Ideal S1x1024x5632 .f32)
variable (x3 x4 : FVec Ideal S4096x32 .f32) (b : Fin 4) (p : Fin 4096)

/-- A column of the projection of a position of a sequence. -/
abbrev col (n : Fin 5632) : EReal :=
  Row.column (fun k => x0 (ix3 b p k)) (fun k => x1 (ix2 0 k)) (fun k n => x2 (ix3 0 k n)) n

/-- The normalised row. -/
theorem norm (k : Fin 1024) : val_main_v13 (F := Ideal) x0 x1 (ix3 b p k)
    = Row.rms (fun k => x0 (ix3 b p k)) (fun k => x1 (ix2 0 k)) k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, Row.rms]

/-- The projection. -/
theorem projection (n : Fin 5632) : val_main_v15 (F := Ideal) x0 x1 x2 (ix3 b p n) = col x0 x1 x2 b p n := by
  simp only [Row.column, ← norm]
  pointwise [val_main_v14, val_main_v15]

/-- The turned keys: a column of a group's first half. -/
theorem key0 (h : Fin 8) (d : Fin 2) (j : Fin 32) : val_main_v28 (F := Ideal) x0 x1 x2 x3 x4 (ix5 b p h d j)
    = col x0 x1 x2 b p ⟨1536 + (h.val * 128 + d.val * 64 + j.val), by omega⟩ * x3 (ix2 p j)
      - col x0 x1 x2 b p ⟨1536 + (h.val * 128 + d.val * 64 + (32 + j.val)), by omega⟩ * x4 (ix2 p j) := by
  simp only [← projection]
  pointwise [val_main_v16, val_main_v17, val_main_v18, val_main_v19, val_main_v20, val_main_v21, val_main_v22, val_main_v23, val_main_v24, val_main_v25, val_main_v26, val_main_v27, val_main_v28]

/-- The turned keys: a column of a group's second half. -/
theorem key1 (h : Fin 8) (d : Fin 2) (j : Fin 32) : val_main_v35 (F := Ideal) x0 x1 x2 x3 x4 (ix5 b p h d j)
    = col x0 x1 x2 b p ⟨1536 + (h.val * 128 + d.val * 64 + j.val), by omega⟩ * x4 (ix2 p j)
      + col x0 x1 x2 b p ⟨1536 + (h.val * 128 + d.val * 64 + (32 + j.val)), by omega⟩ * x3 (ix2 p j) := by
  simp only [← projection]
  pointwise [val_main_v16, val_main_v17, val_main_v18, val_main_v19, val_main_v20, val_main_v21, val_main_v29, val_main_v30, val_main_v31, val_main_v32, val_main_v33, val_main_v34, val_main_v35]

/-- The pooled features of the reference. -/
theorem value_u (r : Fin 16384) (n : Fin 512) : val_main_v38 (F := Ideal) x0 x1 x2 (ix2 r n)
    = col x0 x1 x2 ⟨r.val / 4096, by omega⟩ ⟨r.val % 4096, by omega⟩ ⟨n.val, by omega⟩ := by
  rw [← projection]
  pointwise [val_main_v37, val_main_v38]

/-- The values of the reference. -/
theorem value_v (r : Fin 16384) (n : Fin 1024) : val_main_v41 (F := Ideal) x0 x1 x2 (ix2 r n)
    = col x0 x1 x2 ⟨r.val / 4096, by omega⟩ ⟨r.val % 4096, by omega⟩ ⟨2560 + n.val, by omega⟩ := by
  rw [← projection]
  pointwise [val_main_v40, val_main_v41]

/-- The turned keys of the reference, by their place in the groups. -/
theorem key (h : Fin 8) (d : Fin 2) (j : Fin 64) : val_main_v36 (F := Ideal) x0 x1 x2 x3 x4 (ix5 b p h d j)
    = Row.rotary (fun n => col x0 x1 x2 b p ⟨1536 + n.val, by omega⟩) (fun j => x3 (ix2 p j)) (fun j => x4 (ix2 p j))
        ⟨h.val * 128 + d.val * 64 + j.val, by omega⟩ := by
  have e : val_main_v36 (F := Ideal) x0 x1 x2 x3 x4 (ix5 b p h d j)
      = if hj : j.val < 32 then val_main_v28 (F := Ideal) x0 x1 x2 x3 x4 (ix5 b p h d ⟨j.val, hj⟩)
        else val_main_v35 (F := Ideal) x0 x1 x2 x3 x4 (ix5 b p h d ⟨j.val - 32, by omega⟩) := by
    pointwise [val_main_v36]
  rw [e]
  unfold Row.rotary
  by_cases hj : j.val < 32
  · have hm : (h.val * 128 + d.val * 64 + j.val) % 64 < 32 := by omega
    have ej : (⟨(h.val * 128 + d.val * 64 + j.val) % 32, by omega⟩ : Fin 32) = ⟨j.val, hj⟩ :=
      Fin.ext (by show _ % 32 = j.val; omega)
    rw [dif_pos hj, dif_pos hm, key0, ej]
    refine congrArg (fun n => _ - col x0 x1 x2 b p n * _) (Fin.ext ?_)
    show 1536 + (h.val * 128 + d.val * 64 + (32 + j.val)) = 1536 + (h.val * 128 + d.val * 64 + j.val + 32)
    omega
  · have hm : ¬ (h.val * 128 + d.val * 64 + j.val) % 64 < 32 := by omega
    have ej : (⟨(h.val * 128 + d.val * 64 + j.val) % 32, by omega⟩ : Fin 32) = ⟨j.val - 32, by omega⟩ :=
      Fin.ext (by show _ % 32 = j.val - 32; omega)
    rw [dif_neg hj, dif_neg hm, key1, ej]
    refine congrArg₂ (fun n n' => col x0 x1 x2 b p n * _ + col x0 x1 x2 b p n' * _) (Fin.ext ?_) (Fin.ext ?_)
    · show 1536 + (h.val * 128 + d.val * 64 + (j.val - 32)) = 1536 + (h.val * 128 + d.val * 64 + j.val - 32)
      omega
    · show 1536 + (h.val * 128 + d.val * 64 + (32 + (j.val - 32))) = 1536 + (h.val * 128 + d.val * 64 + j.val)
      omega

/-- The turned keys of the reference. -/
theorem value_k (r : Fin 16384) (n : Fin 1024) : val_main_v39 (F := Ideal) x0 x1 x2 x3 x4 (ix2 r n)
    = Row.rotary (fun n => col x0 x1 x2 ⟨r.val / 4096, by omega⟩ ⟨r.val % 4096, by omega⟩ ⟨1536 + n.val, by omega⟩)
        (fun j => x3 (ix2 ⟨r.val % 4096, by omega⟩ j)) (fun j => x4 (ix2 ⟨r.val % 4096, by omega⟩ j)) n := by
  have e : val_main_v39 (F := Ideal) x0 x1 x2 x3 x4 (ix2 r n)
      = val_main_v36 (F := Ideal) x0 x1 x2 x3 x4 (ix5 ⟨r.val / 4096, by omega⟩ ⟨r.val % 4096, by omega⟩
          ⟨n.val / 128, by omega⟩ ⟨n.val / 64 % 2, by omega⟩ ⟨n.val % 64, by omega⟩) := by
    pointwise [val_main_v39]
  rw [e, key]
  refine congrArg (Row.rotary _ _ _) (Fin.ext ?_)
  show n.val / 128 * 128 + n.val / 64 % 2 * 64 + n.val % 64 = n.val
  omega

end Cert.Reference4Ideal.Proj

end
-- ==== Proof.ProjClaims.lean ====
/- The projecting call's claims: its runs, and that its results and its reference's are equal. -/
module

public import proofs.«01_k».proof.Defs
public import proofs.«01_k».proof.Proof.Gen.Kernel4.Frame
public import proofs.«01_k».proof.Proof.ProjArray
public import proofs.«01_k».proof.Proof.ProjRef
public import proofs.«01_k».proof.Proof.Gen.Reference4Ideal.Run
public import Idealize.ShloMosaic.Adequacy
public import Idealize.ShloMosaic.Init
public import Idealize.ShloMosaic.Lib.Claim

@[expose] public section

set_option maxRecDepth 16384

noncomputable section

namespace Cert.Proof.Proj

open Idealize.ShloMosaic Idealize.SL.Sem

attribute [local instance] Cert.Kernel4.Gen.facts Cert.Kernel4Ideal.Gen.facts Cert.Reference4Ideal.Gen.facts

/-- The kernel runs and leaves its arguments as they were. -/
theorem frame : Cert.quiescent_Kernel4 := by
  intro m g _
  exact Cert.Kernel4.Gen.frame m g

/-- So does the kernel over the reals. -/
theorem frame_ideal : Cert.quiescent_Kernel4Ideal := by
  intro m g _
  exact Cert.Kernel4Ideal.Gen.frame m g

/-- So does its reference. -/
theorem frame_reference : Cert.quiescent_Reference4Ideal := by
  intro m g _
  exact (θ_run Cert.Reference4Ideal.defs _ _).mono (fun r h => ⟨fun c => (h c).2.2.2, sem_eq_zero_of_no_sems (by decide) r.2⟩)
    (Cert.Reference4Ideal.Value.run m g)

/-- An index of the pooled features, by its two coordinates. -/
theorem ix_pool (i : Cert.Reference4Ideal.S16384x512.Idx) : i = ix2 (i 0) (i 1) := by
  funext a; fin_cases a <;> rfl

/-- An index of the keys or of the values, by its two coordinates. -/
theorem ix_head (i : Cert.Reference4Ideal.S16384x1024.Idx) : i = ix2 (i 0) (i 1) := by
  funext a; fin_cases a <;> rfl

/-- The kernel's results equal its reference's. -/
theorem equal : Cert.algebraic_Kernel4Ideal_Reference4Ideal := by
  pair_intro
  · run_from Cert.Kernel4Ideal.Value.run_blocks m g
  · run_from Cert.Reference4Ideal.Value.run m' g'
    · rw [Cert.Kernel4Ideal.Proj.final_u m c]
      exact funext fun i => ((congrArg _ (Cert.Proof.Proj.ix_pool i)).trans (Cert.Reference4Ideal.Proj.value_u _ _ _ (i 0) (i 1)))
    · rw [Cert.Kernel4Ideal.Proj.final_k m c, Cert.Reference4Ideal.Read.val_main_v39_eq m' c]
      obtain ⟨a0, a1, a2, a3, a4⟩ := hagree c
      rw [a0, a1, a2, a3, a4]
      exact funext fun i => ((congrArg _ (Cert.Proof.Proj.ix_head i)).trans (Cert.Reference4Ideal.Proj.value_k _ _ _ _ _ (i 0) (i 1)))
    · rw [Cert.Kernel4Ideal.Proj.final_v m c]
      exact funext fun i => ((congrArg _ (Cert.Proof.Proj.ix_head i)).trans (Cert.Reference4Ideal.Proj.value_v _ _ _ (i 0) (i 1)))

end Cert.Proof.Proj

end
-- ==== Proof.MlpSpec.lean ====
/- The feed-forward call, as plain functions of one token's row. -/
module

public import proofs.«01_k».proof.Proof.MixSpec

@[expose] public section

noncomputable section

namespace Cert.Row

open Idealize.ShloMosaic

/-- One hidden channel: the square of the positive part of a column of the upward projection. -/
def hidden (h : Fin 1024 → EReal) (w : Fin 1024 → EReal) : EReal :=
  max (∑ k, h k * w k) 0 * max (∑ k, h k * w k) 0

/-- One entry of the residual sum: the row plus the downward projection of the hidden channels. -/
def residual (x g : Fin 1024 → EReal) (wu : Fin 1024 → Fin 4096 → EReal) (wd : Fin 4096 → Fin 1024 → EReal)
    (n : Fin 1024) : EReal :=
  x n + ∑ j, hidden (rms x g) (fun k => wu k j) * wd j n

/-- One entry of the call's result: the residual sum, normalised by its root mean square and scaled. -/
def feedForward (x g : Fin 1024 → EReal) (wu : Fin 1024 → Fin 4096 → EReal) (wd : Fin 4096 → Fin 1024 → EReal)
    (gf : Fin 1024 → EReal) (n : Fin 1024) : EReal :=
  rms (residual x g wu wd) gf n

/-- A sum over 4096 channels, in two halves. -/
theorem sum_halves (f : Fin 4096 → EReal) : ∑ j, f j
    = (∑ j : Fin 2048, f ⟨j.val, by omega⟩) + ∑ j : Fin 2048, f ⟨2048 + j.val, by omega⟩ :=
  Fin.sum_univ_add (M := EReal) (a := 2048) (b := 2048) f

end Cert.Row

end
-- ==== Proof.MlpBlock.lean ====
/- What the feed-forward call stores, entry by entry. -/
module

public import proofs.«01_k».proof.Proof.MlpSpec
public import proofs.«01_k».proof.Proof.Gen.Kernel5Ideal.Skeleton
public import Idealize.ShloMosaic.Lib.Pipeline.ValueKit

@[expose] public section

set_option maxRecDepth 16384

noncomputable section

namespace Cert.Kernel5Ideal.Mlp

open Cert.Kernel5Ideal Cert.Kernel5Ideal.Gen Idealize.ShloMosaic Idealize.ShloMosaic.TcCoe

/-- The normalised rows. -/
theorem pay2_apply (x : FVec Ideal S128x1024 .f32) (g : FVec Ideal S1x1024 .f32) (r : Fin 128) (k : Fin 1024) :
    k0_pay2 (F := Ideal) x g (ix2 r k) = Row.rms (fun i => x (ix2 r i)) (fun i => g (ix2 0 i)) k := by
  pointwise [k0_pay2, Row.rms]

/-- The rows plus the first half of the hidden channels, projected. -/
theorem pay3_apply (x : FVec Ideal S128x1024 .f32) (h : FVec Ideal S128x1024 .bf16) (wu : FVec Ideal S1024x2048 .bf16)
    (wd : FVec Ideal S2048x1024 .bf16) (r : Fin 128) (n : Fin 1024) :
    k0_pay3 (F := Ideal) x h wu wd (ix2 r n)
      = x (ix2 r n) + ∑ j : Fin 2048, Row.hidden (fun k => h (ix2 r k)) (fun k => wu (ix2 k j)) * wd (ix2 j n) := by
  pointwise [k0_pay3, Row.hidden]

/-- The second half of the upward projection. -/
theorem pay4_apply (h : FVec Ideal S128x1024 .bf16) (wu : FVec Ideal S1024x2048 .bf16) (r : Fin 128) (j : Fin 2048) :
    k0_pay4 (F := Ideal) h wu (ix2 r j) = ∑ k : Fin 1024, h (ix2 r k) * wu (ix2 k j) := by
  pointwise [k0_pay4]

/-- The sum with the second half of the hidden channels, normalised. -/
theorem pay1_apply (y : FVec Ideal S128x1024 .f32) (a : FVec Ideal S128x2048 .f32) (wd : FVec Ideal S2048x1024 .bf16)
    (g : FVec Ideal S1x1024 .f32) (r : Fin 128) (n : Fin 1024) :
    k0_pay1 (F := Ideal) y a wd g (ix2 r n)
      = Row.rms (fun n => y (ix2 r n) + ∑ j : Fin 2048, max (a (ix2 r j)) 0 * max (a (ix2 r j)) 0 * wd (ix2 j n))
          (fun i => g (ix2 0 i)) n := by
  pointwise [k0_pay1, Row.rms]

/-- A half of the upward projection's columns, as the body loads it. -/
theorem columns_apply (x : FVec Ideal S1024x4096 .bf16) (o : ℕ)
    (inb : ∀ a : Fin S1024x4096.rank, ![0, o] a + S1024x2048.size a ≤ S1024x4096.size a) (ho : o + 2048 ≤ 4096)
    (k : Fin 1024) (j : Fin 2048) :
    View.ld (Val := Elt Ideal) (e' := .bf16) x (Rect.unit (s := S1024x4096) ![0, o] S1024x2048.size inb) (ix2 k j)
      = x (ix2 k ⟨o + j.val, by omega⟩) := by
  refine View.ld_unit_apply_of _ _ _ _ _ _ (fun a => ?_)
  fin_cases a <;> simp

/-- A half of the downward projection's rows, as the body loads it. -/
theorem rows_apply (x : FVec Ideal S4096x1024 .bf16) (o : ℕ)
    (inb : ∀ a : Fin S4096x1024.rank, ![o, 0] a + S2048x1024.size a ≤ S4096x1024.size a) (ho : o + 2048 ≤ 4096)
    (j : Fin 2048) (n : Fin 1024) :
    View.ld (Val := Elt Ideal) (e' := .bf16) x (Rect.unit (s := S4096x1024) ![o, 0] S2048x1024.size inb) (ix2 j n)
      = x (ix2 ⟨o + j.val, by omega⟩ n) := by
  refine View.ld_unit_apply_of _ _ _ _ _ _ (fun a => ?_)
  fin_cases a <;> simp

/-- What the body stores, over its input blocks. -/
def stored (x0 : FVec Ideal S128x1024 .f32) (x1 : FVec Ideal S1x1024 .f32) (x2 : FVec Ideal S1024x4096 .bf16)
    (x3 : FVec Ideal S4096x1024 .bf16) (x4 : FVec Ideal S1x1024 .f32) : FVec Ideal S128x1024 .f32 :=
  k0_pay1 (F := Ideal)
    (k0_pay3 x0 (k0_pay2 (F := Ideal) x0 x1)
      (View.ld (Val := Elt Ideal) (e' := .bf16) x2 (Rect.unit (s := S1024x4096) ![0, 0] S1024x2048.size inb_S1024x4096_S1024x2048_0_0))
      (View.ld (Val := Elt Ideal) (e' := .bf16) x3 (Rect.unit (s := S4096x1024) ![0, 0] S2048x1024.size inb_S4096x1024_S2048x1024_0_0)))
    (k0_pay4 (k0_pay2 (F := Ideal) x0 x1)
      (View.ld (Val := Elt Ideal) (e' := .bf16) x2 (Rect.unit (s := S1024x4096) ![0, 2048] S1024x2048.size inb_S1024x4096_S1024x2048_0_2048)))
    (View.ld (Val := Elt Ideal) (e' := .bf16) x3 (Rect.unit (s := S4096x1024) ![2048, 0] S2048x1024.size inb_S4096x1024_S2048x1024_2048_0))
    x4

/-- One entry of what the body stores is the row function of the rows its blocks hold. -/
theorem stored_apply {x0 : FVec Ideal S128x1024 .f32} {x1 : FVec Ideal S1x1024 .f32} {x2 : FVec Ideal S1024x4096 .bf16}
    {x3 : FVec Ideal S4096x1024 .bf16} {x4 : FVec Ideal S1x1024 .f32} {x g gf : Fin 1024 → EReal}
    {wu : Fin 1024 → Fin 4096 → EReal} {wd : Fin 4096 → Fin 1024 → EReal} (r : Fin 128) (n : Fin 1024)
    (h0 : ∀ k, x0 (ix2 r k) = x k) (h1 : ∀ k, x1 (ix2 0 k) = g k) (h2 : ∀ k j, x2 (ix2 k j) = wu k j)
    (h3 : ∀ j n, x3 (ix2 j n) = wd j n) (h4 : ∀ k, x4 (ix2 0 k) = gf k) :
    stored x0 x1 x2 x3 x4 (ix2 r n) = Row.feedForward x g wu wd gf n := by
  have eh : (fun i => k0_pay2 (F := Ideal) x0 x1 (ix2 r i)) = Row.rms x g := by
    funext k; rw [pay2_apply]; simp only [h0, h1]
  have e4 : (fun i => x4 (ix2 0 i)) = gf := funext h4
  rw [stored, pay1_apply, e4]
  refine congrFun (congrArg (fun y => Row.rms y gf) (funext fun n => ?_)) n
  rw [pay3_apply, Row.residual, Row.sum_halves, ← add_assoc]
  simp only [pay4_apply, columns_apply x2 0 _ (by norm_num), columns_apply x2 2048 _ (by norm_num),
    rows_apply x3 0 _ (by norm_num), rows_apply x3 2048 _ (by norm_num), eh, h0, h2, h3, zero_add, Row.hidden,
    ← congrFun eh]

end Cert.Kernel5Ideal.Mlp

end
-- ==== Proof.MlpArray.lean ====
/- What the feed-forward call's result array holds after the run. -/
module

public import proofs.«01_k».proof.Proof.MlpBlock
public import proofs.«01_k».proof.Proof.Gen.Kernel5Ideal.Value

@[expose] public section

set_option maxRecDepth 16384

noncomputable section

namespace Cert.Kernel5Ideal.Mlp

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The result array, entry by entry, over the argument arrays. -/
def result (x0 : FVec Ideal S128x1024 .f32) (x1 : FVec Ideal S1x1024 .f32) (x2 : FVec Ideal S1x1024x4096 .f32)
    (x3 : FVec Ideal S1x4096x1024 .f32) (x4 : FVec Ideal S1024 .f32) : FVec Ideal S128x1024 .f32 := fun i =>
  Row.feedForward (fun k => x0 (ix2 (i 0) k)) (fun k => x1 (ix2 0 k)) (fun k j => x2 (ix3 0 k j))
    (fun j n => x3 (ix3 0 j n)) (fun k => x4 (ix1 k)) (i 1)

/-- The block of every window: there is one step, and every window is its whole array. -/
theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] :=
  (by decide +kernel : ∀ t : Fin grid0.N, _)

section Reads

variable (c : Dev nD) (t : Fin cfg0.N)

/-- A row of the activations. -/
theorem read0 (r : Fin 128) (k : Fin 1024) : iblk m c 0 t (ix2 r k) = m ((c : Thread nD τ).loc main_arg0) (ix2 r k) := by
  blk_point [iblk, V, idx t]

/-- The first norm's weights. -/
theorem read1 (k : Fin 1024) : iblk m c 1 t (ix2 0 k) = m ((c : Thread nD τ).loc main_arg1) (ix2 0 k) := by
  blk_point [iblk, V, idx t]

/-- The upward projection. -/
theorem read2 (k : Fin 1024) (j : Fin 4096) : iblk m c 2 t (ix2 k j)
    = m ((c : Thread nD τ).loc main_arg2) (ix3 0 k j) := by
  blk_point [iblk, V, idx t]

/-- The downward projection. -/
theorem read3 (j : Fin 4096) (n : Fin 1024) : iblk m c 3 t (ix2 j n)
    = m ((c : Thread nD τ).loc main_arg3) (ix3 0 j n) := by
  blk_point [iblk, V, idx t]

/-- The last norm's weights. -/
theorem read4 (k : Fin 1024) : iblk m c 4 t (ix2 0 k) = m ((c : Thread nD τ).loc main_arg4) (ix1 k) := by
  blk_point [iblk, V, idx t]

end Reads

/-- After the run the result array holds, at every entry, the row function of that row. -/
theorem final (c : Dev nD) : (dats m 0 c).arrAt 5 (cfgs 0).N
    = result (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; unfold outsAt0; frame_out
  have ey : y = ix2 (y 0) (y 1) := by funext a; fin_cases a <;> rfl
  rw [ey]
  refine (stored_apply (y 0) (y 1) (read0 m c t _) (read1 m c t) (read2 m c t) (read3 m c t) (read4 m c t)).trans ?_
  have e0 : (((View.whole main_v7).slice (win0_5.rect t)).emb (ix2 (y 0) (y 1))) = ix2 (y 0) (y 1) := by blk_ext [idx t]
  exact (congrArg (result _ _ _ _ _) e0).symm

end Cert.Kernel5Ideal.Mlp

end
-- ==== Proof.MlpRef.lean ====
/- The feed-forward reference, entry by entry. -/
module

public import proofs.«01_k».proof.Proof.MlpSpec
public import proofs.«01_k».proof.Proof.Gen.Reference5Ideal.Read
public import Idealize.ShloMosaic.Lib.Pipeline.ValueKit

@[expose] public section

set_option maxRecDepth 16384

noncomputable section

namespace Cert.Reference5Ideal.Mlp

open Cert.Reference5Ideal Cert.Reference5Ideal.Gen Cert.Reference5Ideal.Read Idealize.ShloMosaic
open scoped BigOperators

variable (x0 : FVec Ideal S128x1024 .f32) (x1 : FVec Ideal S1x1024 .f32) (x2 : FVec Ideal S1x1024x4096 .f32)
variable (x3 : FVec Ideal S1x4096x1024 .f32) (x4 : FVec Ideal S1024 .f32) (r : Fin 128)

/-- The normalised row. -/
theorem norm (k : Fin 1024) :
    val_main_v13 (F := Ideal) x0 x1 (ix2 r k) = Row.rms (fun k => x0 (ix2 r k)) (fun k => x1 (ix2 0 k)) k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, Row.rms]

/-- A hidden channel. -/
theorem channel (j : Fin 4096) : val_main_v17 (F := Ideal) x0 x1 x2 (ix2 r j)
    = Row.hidden (Row.rms (fun k => x0 (ix2 r k)) (fun k => x1 (ix2 0 k))) (fun k => x2 (ix3 0 k j)) := by
  have h : Row.rms (fun k => x0 (ix2 r k)) (fun k => x1 (ix2 0 k)) = fun k => val_main_v13 (F := Ideal) x0 x1 (ix2 r k) :=
    funext fun k => (norm x0 x1 r k).symm
  rw [h]
  pointwise [val_main_v14, val_main_v15, val_main_call0_v0, val_main_call0_cst, val_main_v16, val_main_v17, Row.hidden]

/-- The residual sum. -/
theorem sum (n : Fin 1024) : val_main_v20 (F := Ideal) x0 x1 x2 x3 (ix2 r n)
    = Row.residual (fun k => x0 (ix2 r k)) (fun k => x1 (ix2 0 k)) (fun k j => x2 (ix3 0 k j))
        (fun j n => x3 (ix3 0 j n)) n := by
  simp only [Row.residual, ← channel]
  pointwise [val_main_v18, val_main_v19, val_main_v20]

/-- The reference's result is the row function of every row. -/
theorem value (n : Fin 1024) : val_main_v33 (F := Ideal) x0 x1 x2 x3 x4 (ix2 r n)
    = Row.feedForward (fun k => x0 (ix2 r k)) (fun k => x1 (ix2 0 k)) (fun k j => x2 (ix3 0 k j))
        (fun j n => x3 (ix3 0 j n)) (fun k => x4 (ix1 k)) n := by
  have h : Row.residual (fun k => x0 (ix2 r k)) (fun k => x1 (ix2 0 k)) (fun k j => x2 (ix3 0 k j))
      (fun j n => x3 (ix3 0 j n)) = fun n => val_main_v20 (F := Ideal) x0 x1 x2 x3 (ix2 r n) :=
    funext fun n => (sum x0 x1 x2 x3 r n).symm
  rw [Row.feedForward, h]
  pointwise [val_main_v21, val_main_cst_2, val_main_v22, val_main_v23, val_main_cst_3, val_main_v24, val_main_v25, val_main_cst_4, val_main_v26, val_main_v27, val_main_v28, val_main_v29, val_main_v30, val_main_v31, val_main_v32, val_main_v33, Row.rms]

end Cert.Reference5Ideal.Mlp

end
-- ==== Proof.MlpClaims.lean ====
/- The feed-forward call's claims: its runs, and that its result and its reference's are equal. -/
module

public import proofs.«01_k».proof.Defs
public import proofs.«01_k».proof.Proof.Gen.Kernel5.Frame
public import proofs.«01_k».proof.Proof.MlpArray
public import proofs.«01_k».proof.Proof.MlpRef
public import proofs.«01_k».proof.Proof.Gen.Reference5Ideal.Run
public import Idealize.ShloMosaic.Adequacy
public import Idealize.ShloMosaic.Init
public import Idealize.ShloMosaic.Lib.Claim

@[expose] public section

set_option maxRecDepth 16384

noncomputable section

namespace Cert.Proof.Mlp

open Idealize.ShloMosaic Idealize.SL.Sem

attribute [local instance] Cert.Kernel5.Gen.facts Cert.Kernel5Ideal.Gen.facts Cert.Reference5Ideal.Gen.facts

/-- The kernel runs and leaves its arguments as they were. -/
theorem frame : Cert.quiescent_Kernel5 := by
  intro m g _
  exact Cert.Kernel5.Gen.frame m g

/-- So does the kernel over the reals. -/
theorem frame_ideal : Cert.quiescent_Kernel5Ideal := by
  intro m g _
  exact Cert.Kernel5Ideal.Gen.frame m g

/-- So does its reference. -/
theorem frame_reference : Cert.quiescent_Reference5Ideal := by
  intro m g _
  exact (θ_run Cert.Reference5Ideal.defs _ _).mono (fun r h => ⟨fun c => (h c).2, sem_eq_zero_of_no_sems (by decide) r.2⟩)
    (Cert.Reference5Ideal.Value.run m g)

/-- An index of the result, by its two coordinates. -/
theorem ix_eq (i : Cert.Reference5Ideal.S128x1024.Idx) : i = ix2 (i 0) (i 1) := by
  funext a; fin_cases a <;> rfl

/-- The kernel's result equals its reference's. -/
theorem equal : Cert.algebraic_Kernel5Ideal_Reference5Ideal := by
  pair_intro
  · run_from Cert.Kernel5Ideal.Value.run_blocks m g
  · run_from Cert.Reference5Ideal.Value.run m' g'
    rw [Cert.Kernel5Ideal.Mlp.final m c, Cert.Reference5Ideal.Read.val_main_v33_eq m' c]
    obtain ⟨a0, a1, a2, a3, a4⟩ := hagree c
    rw [a0, a1, a2, a3, a4]
    exact funext fun i => ((congrArg _ (Cert.Proof.Mlp.ix_eq i)).trans (Cert.Reference5Ideal.Mlp.value _ _ _ _ _ (i 0) (i 1)))

end Cert.Proof.Mlp

end
-- ==== Proof.lean ====
/- The certificate: the claims of the merging call, of the attention call, of the projecting call and of the MLP call. -/
module

public import proofs.«01_k».proof.Defs
public import proofs.«01_k».proof.Proof.MixClaims
public import proofs.«01_k».proof.Proof.AttnClaims
public import proofs.«01_k».proof.Proof.ProjClaims
public import proofs.«01_k».proof.Proof.MlpClaims

@[expose] public section

noncomputable section

namespace Cert.Proof

/-- Every claim of the certificate. -/
theorem claim : Cert.Claim :=
  ⟨Cert.Kernel2.Gen.facts, Cert.Kernel2Ideal.Gen.facts, Cert.Reference2Ideal.Gen.facts, Cert.Kernel3.Gen.facts,
    Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts,
    Cert.Pre_finite3.Gen.facts,
    Mix.frame, Mix.frame_ideal, Mix.frame_reference, Attn.frame, Attn.frame_ideal, Attn.frame_ideal_pre,
    Attn.frame_reference, Attn.frame_reference_pre, Proj.frame, Proj.frame_ideal, Proj.frame_reference,
    Mlp.frame, Mlp.frame_ideal, Mlp.frame_reference,
    trivial, Mix.equal, Attn.preserved, Attn.equal, trivial, Proj.equal, trivial, Mlp.equal⟩

end Cert.Proof

end
